-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S64x576x64 : Shape := ⟨3, ![64, 576, 64]⟩
abbrev S1024x64 : Shape := ⟨2, ![1024, 64]⟩
abbrev S_ : Shape := ⟨0, ![]⟩

class Facts : Prop where
  bcast_S_S64x576x64 : S_.BroadcastsInDim S64x576x64 (![] : Fin 0 → Fin S64x576x64.rank)
  reducesTo_S64x576x64_S_d0_1_2 : S64x576x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S64x576x64 .f32) (main_arg1 : FVec F S1024x64 .f32) : IVec S_ 1 × IVec S_ 1 :=
  let main_v0 : FVec F S64x576x64 .f32 := Host.absf main_arg0
  let main_cst : FVec F S_ .f32 := constant S_ .f32 0x7F800000#32
  let main_v1 : FVec F S64x576x64 .f32 := broadcastInDim S64x576x64 ![] bcast_S_S64x576x64 main_cst
  let main_v2 : IVec S64x576x64 1 := cmpf .olt main_v0 main_v1
  let main_c : IVec S_ 1 := constantI S_ 1 1#1
  let main_v3 : IVec S_ 1 := (fun x v => Host.reduce IntOp.andi x v reducesTo_S64x576x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  (main_v3, main_v7)
-- ==== KernelIdeal.lean ====
abbrev S64x576x64 : Shape := ⟨3, ![64, 576, 64]⟩
abbrev S1024x64 : Shape := ⟨2, ![1024, 64]⟩
abbrev S36864x64 : Shape := ⟨2, ![36864, 64]⟩
abbrev S_ : Shape := ⟨0, ![]⟩
abbrev S36864 : Shape := ⟨1, ![36864]⟩
abbrev S36864x1 : Shape := ⟨2, ![36864, 1]⟩
abbrev S1024 : Shape := ⟨1, ![1024]⟩
abbrev S1x1024 : Shape := ⟨2, ![1, 1024]⟩
abbrev S1024x128 : Shape := ⟨2, ![1024, 128]⟩
abbrev S6144x64 : Shape := ⟨2, ![6144, 64]⟩
abbrev S6144x1 : Shape := ⟨2, ![6144, 1]⟩
abbrev S6144 : Shape := ⟨1, ![6144]⟩
abbrev S6144x1024 : Shape := ⟨2, ![6144, 1024]⟩
abbrev S36864x128 : Shape := ⟨2, ![36864, 128]⟩
abbrev S576 : Shape := ⟨1, ![576]⟩
abbrev S576x128 : Shape := ⟨2, ![576, 128]⟩
abbrev S64x576 : Shape := ⟨2, ![64, 576]⟩

abbrev nBuf : Table → Nat
  | .hbm => 19
  | .local .tc .vmem => 8
  | .local .scVector .vmem => 2
  | _ => 0

abbrev bufTy : (tb : Table) → Fin (nBuf tb) → BufTy
  | .hbm, ⟨0, _⟩ => ⟨S64x576x64, .f32⟩
  | .hbm, ⟨1, _⟩ => ⟨S1024x64, .f32⟩
  | .hbm, ⟨2, _⟩ => ⟨S36864x64, .f32⟩
  | .hbm, ⟨3, _⟩ => ⟨S36864x64, .f32⟩
  | .hbm, ⟨4, _⟩ => ⟨S_, .f32⟩
  | .hbm, ⟨5, _⟩ => ⟨S36864, .f32⟩
  | .hbm, ⟨6, _⟩ => ⟨S36864x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S36864, .i32⟩
  | .hbm, ⟨15, _⟩ => ⟨S36864x128, .f32⟩
  | .hbm, ⟨16, _⟩ => ⟨S36864x64, .f32⟩
  | .hbm, ⟨17, _⟩ => ⟨S64x576, .i32⟩
  | .hbm, ⟨18, _⟩ => ⟨S64x576x64, .f32⟩
  | .local .tc .vmem, ⟨0, _⟩ => ⟨S6144x64, .f32⟩
  | .local .tc .vmem, ⟨1, _⟩ => ⟨S6144x64, .f32⟩
  | .local .tc .vmem, ⟨2, _⟩ => ⟨S1024x64, .f32⟩
  | .local .tc .vmem, ⟨3, _⟩ => ⟨S6144x1, .f32⟩
  | .local .tc .vmem, ⟨4, _⟩ => ⟨S6144x1, .f32⟩
  | .local .tc .vmem, ⟨5, _⟩ => ⟨S1x1024, .f32⟩
  | .local .tc .vmem, ⟨6, _⟩ => ⟨S6144, .i32⟩
  | .local .tc .vmem, ⟨7, _⟩ => ⟨S6144, .i32⟩
  | .local .scVector .vmem, ⟨0, _⟩ => ⟨S576, .i32⟩
  | .local .scVector .vmem, ⟨1, _⟩ => ⟨S576x128, .f32⟩
  | _, _ => ⟨S64x576x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v7_scv : Ref sig .scVector := ⟨.hbm, 13, rfl⟩
abbrev main_v8_scv : Ref sig .scVector := ⟨.hbm, 14, rfl⟩
abbrev main_v9_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S6144x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6144x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6144 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1152_i32 : BitVec 32 := 1152#32
  let v2 : BitVec 32 := Scalar.muli v1 c1152_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1152_i32 : BitVec 32 := 1152#32
  let v2 : BitVec 32 := Scalar.muli v1 c1152_i32
  let v3 : BitVec 32 := Scalar.addi v2 c0_i32
  let c0_i32_9_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x576x64 : Shape := ⟨3, ![64, 576, 64]⟩
abbrev S1024x64 : Shape := ⟨2, ![1024, 64]⟩
abbrev S36864x64 : Shape := ⟨2, ![36864, 64]⟩
abbrev S_ : Shape := ⟨0, ![]⟩
abbrev S36864 : Shape := ⟨1, ![36864]⟩
abbrev S36864x1 : Shape := ⟨2, ![36864, 1]⟩
abbrev S1024 : Shape := ⟨1, ![1024]⟩
abbrev S1x1024 : Shape := ⟨2, ![1, 1024]⟩
abbrev S36864x1024 : Shape := ⟨2, ![36864, 1024]⟩
abbrev S64x1024 : Shape := ⟨2, ![64, 1024]⟩
abbrev S1 : Shape := ⟨1, ![1]⟩
abbrev S1x1 : Shape := ⟨2, ![1, 1]⟩
abbrev S64x576 : Shape := ⟨2, ![64, 576]⟩

abbrev nBuf : Space → Nat
  | .hbm => 54
  | .vmem => 0
  | .smem => 0
  | _ => 0

abbrev bufTy : (tb : Table) → Fin (tcTables nBuf tb) → BufTy
  | .hbm, ⟨0, _⟩ => ⟨S64x576x64, .f32⟩
  | .hbm, ⟨1, _⟩ => ⟨S1024x64, .f32⟩
  | .hbm, ⟨2, _⟩ => ⟨S36864x64, .f32⟩
  | .hbm, ⟨3, _⟩ => ⟨S36864x64, .f32⟩
  | .hbm, ⟨4, _⟩ => ⟨S_, .f32⟩
  | .hbm, ⟨5, _⟩ => ⟨S36864, .f32⟩
  | .hbm, ⟨6, _⟩ => ⟨S36864x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S36864x1024, .f32⟩
  | .hbm, ⟨12, _⟩ => ⟨S36864x1024, .f32⟩
  | .hbm, ⟨13, _⟩ => ⟨S36864x1024, .f32⟩
  | .hbm, ⟨14, _⟩ => ⟨S64x1024, .f32⟩
  | .hbm, ⟨15, _⟩ => ⟨S36864x1024, .f32⟩
  | .hbm, ⟨16, _⟩ => ⟨S_, .f32⟩
  | .hbm, ⟨17, _⟩ => ⟨S36864x1024, .f32⟩
  | .hbm, ⟨18, _⟩ => ⟨S36864x1024, .f32⟩
  | .hbm, ⟨19, _⟩ => ⟨S36864x1024, .f32⟩
  | .hbm, ⟨20, _⟩ => ⟨S_, .f32⟩
  | .hbm, ⟨21, _⟩ => ⟨S36864x1024, .f32⟩
  | .hbm, ⟨22, _⟩ => ⟨S36864x1024, .f32⟩
  | .hbm, ⟨23, _⟩ => ⟨S36864x1024, .f32⟩
  | .hbm, ⟨24, _⟩ => ⟨S36864x1024, .i32⟩
  | .hbm, ⟨25, _⟩ => ⟨S_, .f32⟩
  | .hbm, ⟨26, _⟩ => ⟨S_, .i32⟩
  | .hbm, ⟨27, _⟩ => ⟨S36864, .f32⟩
  | .hbm, ⟨28, _⟩ => ⟨S36864, .i32⟩
  | .hbm, ⟨29, _⟩ => ⟨S_, .i32⟩
  | .hbm, ⟨30, _⟩ => ⟨S36864, .i32⟩
  | .hbm, ⟨31, _⟩ => ⟨S36864, .i1⟩
  | .hbm, ⟨32, _⟩ => ⟨S_, .i32⟩
  | .hbm, ⟨33, _⟩ => ⟨S36864, .i32⟩
  | .hbm, ⟨34, _⟩ => ⟨S36864, .i32⟩
  | .hbm, ⟨35, _⟩ => ⟨S36864, .i32⟩
  | .hbm, ⟨36, _⟩ => ⟨S36864x1, .i32⟩
  | .hbm, ⟨37, _⟩ => ⟨S1, .i32⟩
  | .hbm, ⟨38, _⟩ => ⟨S_, .i32⟩
  | .hbm, ⟨39, _⟩ => ⟨S36864x1, .i32⟩
  | .hbm, ⟨40, _⟩ => ⟨S36864x1, .i1⟩
  | .hbm, ⟨41, _⟩ => ⟨S1x1, .i32⟩
  | .hbm, ⟨42, _⟩ => ⟨S36864x1, .i32⟩
  | .hbm, ⟨43, _⟩ => ⟨S36864x1, .i1⟩
  | .hbm, ⟨44, _⟩ => ⟨S36864x1, .i1⟩
  | .hbm, ⟨45, _⟩ => ⟨S_, .i1⟩
  | .hbm, ⟨46, _⟩ => ⟨S36864, .i1⟩
  | .hbm, ⟨47, _⟩ => ⟨S36864x64, .f32⟩
  | .hbm, ⟨48, _⟩ => ⟨S36864x64, .i1⟩
  | .hbm, ⟨49, _⟩ => ⟨S_, .f32⟩
  | .hbm, ⟨50, _⟩ => ⟨S36864x64, .f32⟩
  | .hbm, ⟨51, _⟩ => ⟨S36864x64, .f32⟩
  | .hbm, ⟨52, _⟩ => ⟨S64x576x64, .f32⟩
  | .hbm, ⟨53, _⟩ => ⟨S64x576, .i32⟩
  | _, _ => ⟨S64x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩

abbrev nD : Nat := 1
abbrev τ : Topo := Topo.v7x

variable {F : FTy → Type} [FloatOps F]
-- ==== Proof.Setup.lean ====
/-
  The set-up of the launch: the program's configuration, the algebra of the ghost state and the contents that the
  SparseCore call leaves.

  The ghost state has three parts: the rounds of the SparseCore handshakes, the rounds of the pipeline of the
  TensorCore call, and the counters of the tiles' own copies.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem reads it -/

/-- The labels of the pipelines' programs, below the SparseCore's. -/
abbrev ΛP : Labels := Pipeline.Sig Λ₀ (Fin 1) fun p => (pcfgs (F := F) p).Adm
/-- The one SparseCore call's configuration. -/
abbrev K : SparseCore.Cfg τ sig (ΛP (F := F)) 1 := sc (F := F)
/-- The pipelines' body table. -/
abbrev D [FloatOps F] : Defs nD τ sig (Elt F) (ΛP (F := F)) := Pipeline.defs pcfgs defs₀
/-- No loop of the program needs a variant. -/
abbrev 𝒱₀ : Variants := Variants.none
/-- The same for the lifted programs. -/
abbrev 𝒱 : Variants := 𝒱₀.lift
/-- The bound with which every task starts. -/
abbrev v₀ : 𝒱.V := Sum.inl none

/-- The side conditions of the SparseCore launch: its four semaphores are distinct and unscoped, and it shares no buffer. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The algebra -/

/-- The handshakes' rounds. -/
abbrev UH : Type := URounds (GSem nD τ sig) ℕ
/-- The pipeline's rounds. -/
abbrev UP : Type := URounds (GSem nD τ sig) Unit
/-- The three parts together. -/
abbrev UU : Type := UH × (UP × Counters)

local notation "𝕄" => MT nD τ sig (HIx 1) (Elt F) ℕ UU ℕ

/-- Where the handshakes' rounds lie. -/
abbrev EH : Emb UH 𝕄 := embL
/-- Where the pipeline's rounds lie. -/
abbrev EP : Emb UP 𝕄 := (Emb.inl : Emb UP (UP × Counters)).trans embR

/-- The pipeline's ghost state lies within the proof's. -/
instance EP_landsIn : (EP (F := F)).LandsIn (upEmb : UEmb _ 𝕄) := by unfold EP embR; infer_instance

/-! ## The arrays of the SparseCore call -/

/-- The padded codebook. -/
abbrev tLoc (d : Dev nD) : Loc nD τ sig := (SparseCore.T d).loc main_v7
/-- The indices. -/
abbrev iLoc (d : Dev nD) : Loc nD τ sig := (SparseCore.T d).loc main_v8
/-- The gathered rows. -/
abbrev oLoc (d : Dev nD) : Loc nD τ sig := (SparseCore.T d).loc main_v9

/-- The row that an index word names. -/
abbrev rowOf (w : BitVec 32) : Fin 1024 := ⟨w.toNat % 1024, Nat.mod_lt _ (by decide)⟩

/-- The place of column `k` of row `r` of the padded codebook. -/
abbrev tIx (r : Fin 1024) (k : Fin 128) : S1024x128.Idx := fun | 0 => r | 1 => k | ⟨_ + 2, h⟩ => absurd h (Nat.not_lt.2 (Nat.le_add_left _ _))

/-- The place of number `n` of the list of indices. -/
abbrev iIx (n : Fin 36864) : S36864.Idx := fun | 0 => n | ⟨_ + 1, h⟩ => absurd h (Nat.not_lt.2 (Nat.le_add_left _ _))

/-- The rows of the table `t` that the list `g` names, one under the other. -/
def gathered (t : Vec F S1024x128 .f32) (g : IVec S36864 32) : Vec F S36864x128 .f32 :=
  fun j => t (tIx (rowOf (g (iIx (j 0)))) (j 1))

/-! ## The parts of the two long arrays: 64 blocks of 576 rows -/

/-- The index array is cut into 64 equal blocks. -/
theorem iDvd : 64 ∣ S36864.size 0 := ⟨576, rfl⟩
/-- The output is cut into 64 equal blocks. -/
theorem oDvd : 64 ∣ S36864x128.size 0 := ⟨576, rfl⟩

/-- The places of block `b` of the indices. -/
abbrev iSet (b : Fin 64) : Finset S36864.Idx := (Rect.part (s := S36864) (a₀ := 0) iDvd b).set
/-- The places of block `b` of the gathered rows. -/
abbrev oSet (b : Fin 64) : Finset S36864x128.Idx := (Rect.part (s := S36864x128) (a₀ := 0) oDvd b).set

/-- The block that tile `s` of core `c` serves in its pass `h`. -/
def blk (c : Fin 2) (s : Fin 16) (h : Fin 2) : Fin 64 := ⟨4 * s.val + 2 * c.val + h.val, by omega⟩

/-- The share of the table that tile `s` of core `c` reads with. -/
def tShare (c : Fin 2) (s : Fin 16) : PosShare TreeShare :=
  Transfers.dealOf (Transfers.dealOf fullShare (Finset.univ : Finset (Fin 2)) c) (Finset.univ : Finset (Fin 16)) s

/-! ## What one tile takes and brings back -/

variable (t : (d : Dev nD) → Buf (Elt F) (tLoc d)) (g : (d : Dev nD) → Buf (Elt F) (iLoc d)) (o : (d : Dev nD) → Buf (Elt F) (oLoc d))

/-- A tile's two blocks of the indices. -/
def idxPts (d : Dev nD) (c : Fin 2) (s : Fin 16) : sProp 𝕄 :=
  iprop((iLoc d ↦[iSet (blk c s 0)]{fullShare} g d) ∗ iLoc d ↦[iSet (blk c s 1)]{fullShare} g d)
/-- A tile's share of the table. -/
def tabPts (d : Dev nD) (c : Fin 2) (s : Fin 16) : sProp 𝕄 := iprop(tLoc d ↦{tShare c s} t d)
/-- A tile's two blocks of the gathered rows, at the contents `f`. -/
def outPts (f : (d : Dev nD) → Buf (Elt F) (oLoc d)) (d : Dev nD) (c : Fin 2) (s : Fin 16) : sProp 𝕄 :=
  iprop((oLoc d ↦[oSet (blk c s 0)]{fullShare} f d) ∗ oLoc d ↦[oSet (blk c s 1)]{fullShare} f d)

instance (d : Dev nD) (c : Fin 2) (s : Fin 16) : BI.Storable (upEmb : UEmb _ 𝕄) (idxPts g d c s) := by unfold idxPts; infer_instance
instance (d : Dev nD) (c : Fin 2) (s : Fin 16) : BI.Storable (upEmb : UEmb _ 𝕄) (tabPts t d c s) := by unfold tabPts; infer_instance
instance (d : Dev nD) (c : Fin 2) (s : Fin 16) : BI.Storable (upEmb : UEmb _ 𝕄) (outPts o d c s) := by unfold outPts; infer_instance

/-- The contents of the gathered rows after the call. -/
def done (d : Dev nD) : Buf (Elt F) (oLoc d) := gathered (F := F) (t d) (g d)

/-- What a tile takes and brings back, at the contents `f` of its part of the result. -/
def tilePts (f : (d : Dev nD) → Buf (Elt F) (oLoc d)) (d : Dev nD) (c : Fin 2) (s : Fin 16) : sProp 𝕄 :=
  iprop(idxPts g d c s ∗ tabPts t d c s ∗ outPts f d c s)

instance (d : Dev nD) (c : Fin 2) (s : Fin 16) : BI.Storable (upEmb : UEmb _ 𝕄) (tilePts t g o d c s) := by unfold tilePts; infer_instance

end Cert.Proof

end
-- ==== Proof.TcBody.lean ====
/-
  The body of the TensorCore call on one block of 6144 rows: it reads the four input blocks whole and stores one index
  per row.
-/
module

public import proofs.«01_k».proof.Proof.Setup
public import Idealize.ShloMosaic.Lib.Pipeline.Value
public import Idealize.ShloMosaic.Lib.Ring

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The whole block of rows. -/
abbrev rX : Rect S6144x64 := Rect.unit (s := S6144x64) ![0, 0] S6144x64.size inb_S6144x64_S6144x64_0_0
/-- The whole codebook. -/
abbrev rC : Rect S1024x64 := Rect.unit (s := S1024x64) ![0, 0] S1024x64.size inb_S1024x64_S1024x64_0_0
/-- The whole column of squared row lengths. -/
abbrev rXs : Rect S6144x1 := Rect.unit (s := S6144x1) ![0, 0] S6144x1.size inb_S6144x1_S6144x1_0_0
/-- The whole line of squared codebook row lengths. -/
abbrev rCs : Rect S1x1024 := Rect.unit (s := S1x1024) ![0, 0] S1x1024.size inb_S1x1024_S1x1024_0_0
/-- The whole block of indices. -/
abbrev rI : Rect S6144 := Rect.unit (s := S6144) ![0] S6144.size inb_S6144_S6144_0

/-- What the body leaves in the block of indices. -/
def bodyOut (x : Vec F S6144x64 .f32) (c : Vec F S1024x64 .f32) (xs : Vec F S6144x1 .f32) (cs : Vec F S1x1024 .f32) :
    Vec F S6144 .i32 :=
  View.canon [⟨rI, k0_pay1 (View.ld x rX) (View.ld c rC) (View.ld xs rXs) (View.ld cs rCs)⟩]

/-- The one store covers the block. -/
theorem bodyOut_cover (p : Vec F S6144 .i32) (y : S6144.Idx) :
    ∃ pc ∈ ([⟨rI, p⟩] : List (View.Piece (Elt F) S6144 .i32)), y ∈ pc.1.set :=
  View.cover_of_tiled [⟨rI, p⟩] S6144.size (by rfl) y

set_option maxHeartbeats 1000000 in
/-- The body, entered with the four input blocks and any contents of the index block, leaves the input blocks as they were
    and the index block at `bodyOut` of them. -/
theorem body_triple (d : Dev nD) (E : Set ℕ) (i : grid0.Coords)
    (aX : Memref sig .tc .vmem S6144x64 .f32) (hX : aX.IsWhole) (aC : Memref sig .tc .vmem S1024x64 .f32) (hC : aC.IsWhole)
    (aXs : Memref sig .tc .vmem S6144x1 .f32) (hXs : aXs.IsWhole) (aCs : Memref sig .tc .vmem S1x1024 .f32) (hCs : aCs.IsWhole)
    (aI : Memref sig .tc .vmem S6144 .i32) (hI : aI.IsWhole)
    (x : Vec F S6144x64 .f32) (c : Vec F S1024x64 .f32) (xs : Vec F S6144x1 .f32) (cs : Vec F S1x1024 .f32) (Q : PUnit → sProp 𝕄) :
    iprop(owns (d : Thread nD τ) aX fullShare x ∗ owns (d : Thread nD τ) aC fullShare c ∗ owns (d : Thread nD τ) aXs fullShare xs
        ∗ owns (d : Thread nD τ) aCs fullShare cs ∗ (∃ v, owns (d : Thread nD τ) aI fullShare v)
        ∗ (iprop(owns (d : Thread nD τ) aX fullShare x ∗ owns (d : Thread nD τ) aC fullShare c ∗ owns (d : Thread nD τ) aXs fullShare xs
            ∗ owns (d : Thread nD τ) aCs fullShare cs ∗ owns (d : Thread nD τ) aI fullShare (bodyOut x c xs cs)) -∗ Q ⟨⟩))
      ⊢ wp frame (wpE (defs₀ (F := F)) Variants.none d none) E (cc0__vq_body i aX hX aC hC aXs hXs aCs hCs aI hI) Q := by
  simp only [cc0__vq_body_eq_skeleton]; unfold cc0__vq_body_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (bodyOut_cover _)

end Cert.Proof

end
-- ==== Proof.Region.lean ====
/-
  The TensorCore call as one region of @main: from the five arrays that its windows move to the same arrays with the
  indices written.  The TensorCore keeps its debt to the SparseCores (their start signals) through the whole region, and
  the waits of the pipeline lie below that debt.
-/
module

public import proofs.«01_k».proof.Proof.TcBody

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (A : (d : Dev nD) → (b : Ref sig .tc) → Buf (Elt F) ((d : Thread nD τ).loc b))

/-! ## The proof data -/

/-- The block of window `w` at point `t`, cut from its array as the region finds it. -/
def wblk (d : Dev nD) (w : Fin cfg0.W) (t : Fin cfg0.N) : ((cfg0.win w).xblock (cfg0.grid.coords t)).Idx → Elt F (cfg0.win w).elt :=
  ((cfg0.win w).blk t).view.read (Elt F) (A d (Pipeline.arrRef spec0 w))

/-- The arrays as found, the input blocks kept and the index block as the body leaves it; throughout, the debt of the
    TensorCore before the first SparseCore call. -/
def dats (_ : Fin 1) (d : Dev nD) : Dat τ (Elt F) (HIx 1) ℕ UU ℕ cfg0 d where
  A w := A d (Pipeline.arrRef spec0 w)
  after w t := match w with
    | ⟨0, _⟩ => wblk A d 0 t
    | ⟨1, _⟩ => wblk A d 1 t
    | ⟨2, _⟩ => wblk A d 2 t
    | ⟨3, _⟩ => wblk A d 3 t
    | ⟨4, _⟩ => bodyOut (wblk A d 0 t) (wblk A d 1 t) (wblk A d 2 t) (wblk A d 3 t)
  Φ _ := BI.emp
  q _ := fullShare
  owed _ := (K (F := F)).Otc d 0
  recorded _ := {p | (K (F := F)).lev (SparseCore.T d, p.1) p.2 ≤ 0}

/-- A window's array at the region's entry. -/
theorem dats_A (d : Dev nD) (w : Fin cfg0.W) : (dats A 0 d).A w = A d (Pipeline.arrRef spec0 w) := by dsimp only [dats]
/-- After a step the window of rows holds its block. -/
theorem after_0 (d : Dev nD) (t : Fin cfg0.N) : (dats A 0 d).after 0 t = wblk A d 0 t := by dsimp only [dats]
/-- After a step the window of the codebook holds it. -/
theorem after_1 (d : Dev nD) (t : Fin cfg0.N) : (dats A 0 d).after 1 t = wblk A d 1 t := by dsimp only [dats]
/-- After a step the window of squared row lengths holds its block. -/
theorem after_2 (d : Dev nD) (t : Fin cfg0.N) : (dats A 0 d).after 2 t = wblk A d 2 t := by dsimp only [dats]
/-- After a step the window of squared codebook row lengths holds them. -/
theorem after_3 (d : Dev nD) (t : Fin cfg0.N) : (dats A 0 d).after 3 t = wblk A d 3 t := by dsimp only [dats]
/-- After a step the window of indices holds the block's indices. -/
theorem after_4 (d : Dev nD) (t : Fin cfg0.N) :
    (dats A 0 d).after 4 t = bodyOut (wblk A d 0 t) (wblk A d 1 t) (wblk A d 2 t) (wblk A d 3 t) := by dsimp only [dats]

/-- The body finds each input window's buffer at that window's block. -/
theorem before_0 (d : Dev nD) (t : Fin cfg0.N) (v) : (dats A 0 d).before 0 t v = wblk A d 0 t :=
  ((dats A 0 d).before_in_eq_fetched 0 rfl (fun _ => rfl) (fun _ _ _ => rfl)
    (fun t => by rw [after_0]; unfold Dat.blockOf wblk; rw [dats_A]; try rfl) t v).trans
    (by unfold Dat.fetched Dat.blockOf wblk; rw [dats_A]; try rfl)
/-- Before a step the window of the codebook holds it. -/
theorem before_1 (d : Dev nD) (t : Fin cfg0.N) (v) : (dats A 0 d).before 1 t v = wblk A d 1 t :=
  ((dats A 0 d).before_in_eq_fetched 1 rfl (fun _ => rfl) (fun _ _ _ => rfl)
    (fun t => by rw [after_1]; unfold Dat.blockOf wblk; rw [dats_A]; try rfl) t v).trans
    (by unfold Dat.fetched Dat.blockOf wblk; rw [dats_A]; try rfl)
/-- Before a step the window of squared row lengths holds its block. -/
theorem before_2 (d : Dev nD) (t : Fin cfg0.N) (v) : (dats A 0 d).before 2 t v = wblk A d 2 t :=
  ((dats A 0 d).before_in_eq_fetched 2 rfl (fun _ => rfl) (fun _ _ _ => rfl)
    (fun t => by rw [after_2]; unfold Dat.blockOf wblk; rw [dats_A]; try rfl) t v).trans
    (by unfold Dat.fetched Dat.blockOf wblk; rw [dats_A]; try rfl)
/-- Before a step the window of squared codebook row lengths holds them. -/
theorem before_3 (d : Dev nD) (t : Fin cfg0.N) (v) : (dats A 0 d).before 3 t v = wblk A d 3 t :=
  ((dats A 0 d).before_in_eq_fetched 3 rfl (fun _ => rfl) (fun _ _ _ => rfl)
    (fun t => by rw [after_3]; unfold Dat.blockOf wblk; rw [dats_A]; try rfl) t v).trans
    (by unfold Dat.fetched Dat.blockOf wblk; rw [dats_A]; try rfl)

/-! ## The body at a point -/

/-- What the body is entered with at point `t`. -/
def ptPre (d : Dev nD) (t : Fin cfg0.N) : sProp 𝕄 :=
  iprop((dats A 0 d).Φ t.castSucc ∗ (dats A 0 d).owesAt none t.castSucc
    ∗ (∃ v, owns (d : Thread nD τ) (st0_0 t) fullShare ((dats A 0 d).before 0 t v))
    ∗ (∃ v, owns (d : Thread nD τ) (st0_1 t) fullShare ((dats A 0 d).before 1 t v))
    ∗ (∃ v, owns (d : Thread nD τ) (st0_2 t) fullShare ((dats A 0 d).before 2 t v))
    ∗ (∃ v, owns (d : Thread nD τ) (st0_3 t) fullShare ((dats A 0 d).before 3 t v))
    ∗ (∃ v, owns (d : Thread nD τ) (st0_4 t) fullShare ((dats A 0 d).before 4 t v)))

/-- What it leaves. -/
def ptPost (d : Dev nD) (t : Fin cfg0.N) : sProp 𝕄 :=
  iprop((dats A 0 d).Φ t.succ ∗ (dats A 0 d).owesAt none t.succ
    ∗ owns (d : Thread nD τ) (st0_0 t) fullShare ((dats A 0 d).after 0 t)
    ∗ owns (d : Thread nD τ) (st0_1 t) fullShare ((dats A 0 d).after 1 t)
    ∗ owns (d : Thread nD τ) (st0_2 t) fullShare ((dats A 0 d).after 2 t)
    ∗ owns (d : Thread nD τ) (st0_3 t) fullShare ((dats A 0 d).after 3 t)
    ∗ owns (d : Thread nD τ) (st0_4 t) fullShare ((dats A 0 d).after 4 t))

/-- The body at a point, from `body_triple` on the blocks of that point. -/
theorem pt_triple (d : Dev nD) (t : Fin cfg0.N) :
    ptPre A d t ⊢ wp frame (wpE (defs₀ (F := F)) Variants.none d none) Set.univ (bodyAt0 t) (fun _ => ptPost A d t) := by
  unfold ptPre ptPost bodyAt0
  simp only [before_0, before_1, before_2, before_3]
  rw [show (dats A 0 d).Φ t.succ = (dats A 0 d).Φ t.castSucc from rfl,
    show (dats A 0 d).owesAt none t.succ = (dats A 0 d).owesAt none t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple d Set.univ (grid0.coords t) _ _ _ _ _ _ _ _ _ _ (wblk A d 0 t) (wblk A d 1 t) (wblk A d 2 t) (wblk A d 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The row of the body table at a point's buffers is the body. -/
theorem defs₀_tc (t : Fin cfg0.N) : defs₀ (F := F) .tc cfg0.body (cfg0.bodyArgs t (cfg0.slots t)) = bodyAt0 t := by
  rfl

/-- The obligation of the pipeline's loop. -/
theorem body_ok (d : Dev nD) : BodyObligation (dats A 0 d) (defs₀ (F := F)) Variants.none none Set.univ := fun t => by
  rw [bigSep_W0, bigSep_W0, defs₀_tc]
  exact triple_restated (pt_triple A d t) rfl .rfl fun _ => .rfl

/-! ## The region -/

/-- The pipelines read no prefetched tables. -/
abbrev adm : (p : Fin 1) → (pcfgs (F := F) p).Adm := fun p => (cfgs p).toPCfg_adm

/-- The same proof data, at the configurations as the body table names them. -/
abbrev pdats : (p : Fin 1) → (d : Dev nD) → Dat τ (Elt F) (HIx 1) ℕ UU ℕ (Pipeline.pin (pcfgs (F := F)) adm p) d :=
  fun p d => match p with | 0 => dats A 0 d

/-- Before the first SparseCore call the TensorCore owes nothing at an index of a kernel's own. -/
theorem owed_own (d : Dev nD) (x : GSem nD τ sig) : (K (F := F)).Otc d 0 x none = 0 := by
  by_contra h
  have h' := (K (F := F)).lev_of_Otc_pos (Nat.pos_of_ne_zero h)
  rw [SparseCore.Cfg.lev_none] at h'
  omega

/-- The TensorCore's debt, with what it has waited for so far. -/
def debt (d : Dev nD) : sProp 𝕄 :=
  iprop(∃ W, ⌜(K (F := F)).WBelow (SparseCore.T d) W 0⌝ ∗ owes (d : Thread nD τ) ((K (F := F)).Otc d 0) W)

/-- What the TensorCore owes on entering the region. -/
theorem debt_in (d : Dev nD) : debt (F := F) d ⊢ (dats A 0 d).owesAt none 0 := by
  unfold debt Pipeline.Dat.owesAt Pipeline.owesWithin Pipeline.Dat.bound
  rw [show (dats A 0 d).owed 0 = (K (F := F)).Otc d 0 from rfl]
  iintro ⟨%W, %hW, HO⟩; iexists W; isplitr
  · ipureintro; exact fun p hp => Or.inl (hW p hp)
  iexact HO

/-- What it owes on leaving the region. -/
theorem debt_out (d : Dev nD) : (dats A 0 d).owesAt none (Fin.last cfg0.N) ⊢ debt (F := F) d := by
  unfold debt Pipeline.Dat.owesAt Pipeline.owesWithin Pipeline.Dat.bound
  rw [show (dats A 0 d).owed (Fin.last cfg0.N) = (K (F := F)).Otc d 0 from rfl]
  iintro ⟨%W, %hW, HO⟩; iexists W; isplitr
  · ipureintro
    intro p hp
    rcases hW hp with h | ⟨w, s, h⟩
    · exact h
    · rw [h]; exact le_of_eq (SparseCore.Cfg.lev_none _ _)
  iexact HO

/-- No table is prefetched. -/
theorem pref_none (d : Dev nD) (q) (pf) :
    (Pipeline.prefHeld (Ix := HIx 1) (Name := ℕ) (U := UU) (Lvl := ℕ) (Val := Elt F) (pcfgs (F := F) 0).pre d q pf : sProp 𝕄) = BI.emp :=
  bigSep_univ_eq_bigSepL ([] : List (Fin 0)) (by decide) (by decide) _

/-- The region: the five arrays and the debt, in and out. -/
def region : Pipeline.RegionSeg (pcfgs (F := F)) adm (pdats A) none defs₀ 𝒱₀ (K (F := F)).L (K (F := F)).lev 0 where
  win := winFacts0.to₀
  block_pos := block_pos0
  stage_whole := stage_whole0
  K := PEmpty
  osem k := k.elim
  ho := Pipeline.OwnSemFacts.none _
  hbody d := (body_ok A d).loose
  hwaits d := Pipeline.cellsWaits_intro _ (pdats A) none 0 d fun w s t => (K (F := F)).mayWait_none _ (owed_own d)
  pre d := iprop((dats A 0 d).arrays ((dats A 0 d).arrAt · 0) ∗ debt d)
  post d := iprop((dats A 0 d).arrays ((dats A 0 d).arrAt · cfg0.N) ∗ debt d)
  X _ := BI.emp
  Y _ := BI.emp
  Z _ := BI.emp
  hentry d := by
    rw [Pipeline.ownSems0_none, pref_none]
    iintro ⟨⟨Ha, Hd⟩, -, -⟩
    imodintro
    isplitl [Ha]; · iexact Ha
    isplitr; · iempintro
    isplitl [Hd]; · iapply (debt_in A d); iexact Hd
    isplitr <;> iempintro
  hin d := by
    iintro ⟨-, -, -⟩
    iempintro
  hout d := by
    rw [Pipeline.ownSems0_none]
    iintro -
    isplitr; · iempintro
    isplitr; · iempintro
    iapply (Entails.of_eq (scopedRest0_eq d).symm)
    iempintro
  hexit d := by
    iintro ⟨Ha, Hd, -, -⟩
    imodintro
    isplitl [Ha]; · iexact Ha
    iapply (debt_out A d); iexact Hd

end Cert.Proof

end
-- ==== Proof.TileValue.lean ====
/-
  What one pass of a tile writes: the rows that its block of indices names are its block of `gathered`.
-/
module

public import proofs.«01_k».proof.Proof.Setup

@[expose] public section

noncomputable section

namespace Cert.Proof

open Cert.KernelIdeal Cert.KernelIdeal.Gen
open Idealize.ShloMosaic

variable {F : FTy → Type}

/-- The padded codebook, the indices, the gathered rows, and the tile's two scratch buffers, as the task names them. -/
abbrev tV : Memref sig .scVector .hbm S1024x128 .f32 := Memref.whole main_v7_scv
/-- The index array, as a tile sees it. -/
abbrev iV : Memref sig .scVector .hbm S36864 .i32 := Memref.whole main_v8_scv
/-- The output, as a tile sees it. -/
abbrev oV : Memref sig .scVector .hbm S36864x128 .f32 := Memref.whole main_v9_scv
/-- A tile's index scratch. -/
abbrev sV : Memref sig .scVector .vmem S576 .i32 := Memref.whole cc1_scratch0
/-- A tile's row scratch. -/
abbrev rV : Memref sig .scVector .vmem S576x128 .f32 := Memref.whole cc1_scratch1

/-- All of the codebook, as the task slices it. -/
abbrev tAll : Memref sig .scVector .hbm S1024x128 .f32 := (tV).slice (Rect.unit (s := S1024x128) ![0, 0] S1024x128.size inb_S1024x128_S1024x128_0_0) (fun _ => rfl)

/-- The block of the indices of pass `h`, and the block of the result, as the task slices them. -/
abbrev iSl (L : grid1.Coords) (h : Fin 2) : Memref sig .scVector .hbm S576 .i32 :=
  (iV).slice (Rect.unit (s := S36864) (k1_off1 L (BitVec.ofNat 32 (576 * h.val))) S576.size (k1_off1_inb L h)) (fun _ => rfl)
/-- A block of rows that a tile writes. -/
abbrev oSl (L : grid1.Coords) (h : Fin 2) : Memref sig .scVector .hbm S576x128 .f32 :=
  (oV).slice (Rect.unit (s := S36864x128) (k1_off2 L (BitVec.ofNat 32 (576 * h.val))) S576x128.size (k1_off2_inb L h)) (fun _ => rfl)

/-- A write of the whole of a view, whatever was written before, reads back as what was written. -/
theorem read_writes_whole {Val : EltTy → Type} {κ : Kind} {sp : Space} {s : Shape} {e : EltTy} (v : View sig κ sp s e) (f : v.ty.Contents Val)
    (p : s.Idx → Val e) (l : List (View.Piece Val s e)) :
    v.read Val (v.writes Val f (⟨Rect.whole s, p⟩ :: l)) = p := by
  funext y
  exact View.read_writes_cons_hit_of_coords v f (Rect.whole s) p l y y fun a => by simp [Rect.whole]

/-- The rows of the codebook that a block's list names are the block of the gathered rows. -/
theorem gather_block (t : Vec F S1024x128 .f32) (g : IVec S36864 32) (L : grid1.Coords) (h : Fin 2)
    (lst : S576.Idx → Elt F .i32) (hl : lst = (iSl L h).view.read (Elt F) g) (hn : S576.numel = S576x128.size gathers_S1024x128_S576x128.axis')
    (hin : ∀ x, (lst x : BitVec 32).toNat < S1024x128.size gathers_S1024x128_S576x128.axis) :
    SparseCore.gatherPayload (F := F) (e := .f32) gathers_S1024x128_S576x128 ((tAll).view.read (Elt F) t) (SparseCore.rows lst hn hin)
      = (oSl L h).view.read (Elt F) (gathered t g) := by
  subst hl
  funext x
  unfold SparseCore.gatherPayload
  rw [View.read_apply, View.read_apply]
  simp only [cast_eq]
  unfold gathered
  congr 1
  have hin' : ∀ x, (g ((iSl L h).view.emb x) : BitVec 32).toNat < 1024 := fun x => by
    have := hin x; rw [View.read_apply] at this; exact this
  have hk : ∀ k : Fin 576, ((S576.rowMajor.symm (k.cast hn.symm)) 0).val = k.val := fun k => by
    have e := Shape.rowMajor_val_one (S576.rowMajor.symm (k.cast hn.symm))
    rw [← e]
    exact (congrArg Fin.val (S576.rowMajor.apply_symm_apply (k.cast hn.symm)))
  have hr : (SparseCore.rows (F := F) ((iSl L h).view.read (Elt F) g) hn hin (x 0)).val
      = (g (iIx (((oSl L h).view.emb x) 0))).toNat % 1024 := by
    have e : (iSl L h).view.emb (S576.rowMajor.symm ((x 0).cast hn.symm)) = iIx (((oSl L h).view.emb x) 0) := by
      funext a
      match a with
      | 0 =>
        apply Fin.ext
        show k1_off1 L (BitVec.ofNat 32 (576 * h.val)) 0 + 1 * ((S576.rowMajor.symm ((x 0).cast hn.symm)) 0).val
          = k1_off2 L (BitVec.ofNat 32 (576 * h.val)) 0 + 1 * (x 0).val
        rw [show ((S576.rowMajor.symm ((x 0).cast hn.symm)) 0).val = (x 0).val from hk (x 0), k1_off1_eq, k1_off2_eq]
        rfl
    have e' : (SparseCore.rows (F := F) ((iSl L h).view.read (Elt F) g) hn hin (x 0)).val
        = (g ((iSl L h).view.emb (S576.rowMajor.symm ((x 0).cast hn.symm))) : BitVec 32).toNat := by
      unfold SparseCore.rows
      show (((iSl L h).view.read (Elt F) g (S576.rowMajor.symm ((x 0).cast hn.symm))) : BitVec 32).toNat = _
      rw [View.read_apply]; rfl
    rw [e', ← e, Nat.mod_eq_of_lt (hin' _)]
  funext a
  match a with
  | 0 =>
    apply Fin.ext
    refine Eq.trans ?_ hr
    show (![0, 0] : Fin 2 → ℕ) 0 + 1 * (gathers_S1024x128_S576x128.idx _ x gathers_S1024x128_S576x128.axis).val = _
    rw [Shape.Gathers.idx_axis]
    simp
  | 1 =>
    apply Fin.ext
    show (![0, 0] : Fin 2 → ℕ) 1 + 1 * (gathers_S1024x128_S576x128.idx _ x 1).val = k1_off2 L (BitVec.ofNat 32 (576 * h.val)) 1 + 1 * (x 1).val
    rw [Shape.Gathers.idx_of_ne _ _ _ _ (by decide), k1_off2_eq]
    simp

end Cert.Proof

end
-- ==== Proof.Tile.lean ====
/-
  One tile's task: fetch a block of the indices, gather the rows they name, write them out; twice.

  The task is run once at a symbolic tile. What it leaves in its two blocks of the result is the list of the rows that
  its two blocks of indices name (`done`).
-/
module

public import proofs.«01_k».proof.Proof.TileValue

@[expose] public section

noncomputable section

namespace Cert.Proof

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)

/-- The core and the tile at the coordinates `L`. -/
abbrev cV : Fin τ.nSC := (L 0).castLE hcore1
/-- The tile's number among its SparseCore's tiles. -/
abbrev jV : Fin τ.nSub := (L 1).castLE hsub1
/-- The same as numbers below 2 and below 16. -/
abbrev cF : Fin 2 := Fin.cast (rfl : grid1.bound 0 = 2) (L 0)
/-- The same number, below 16. -/
abbrev sF : Fin 16 := Fin.cast (rfl : grid1.bound 1 = 16) (L 1)

/-- The tile's first and second block of the indices, as the task slices them. -/
abbrev iSl0 : Memref sig .scVector .hbm S576 .i32 := (iV).slice (Rect.unit (s := S36864) (k1_off1 L 0#32) S576.size (k1_off1_inb L 0)) (fun _ => rfl)
/-- The second block of indices that the tile reads. -/
abbrev iSl1 : Memref sig .scVector .hbm S576 .i32 := (iV).slice (Rect.unit (s := S36864) (k1_off1 L 576#32) S576.size (k1_off1_inb L 1)) (fun _ => rfl)
/-- The tile's first and second block of the result, as the task slices them. -/
abbrev oSl0 : Memref sig .scVector .hbm S576x128 .f32 := (oV).slice (Rect.unit (s := S36864x128) (k1_off2 L 0#32) S576x128.size (k1_off2_inb L 0)) (fun _ => rfl)
/-- The second block of rows that the tile writes. -/
abbrev oSl1 : Memref sig .scVector .hbm S576x128 .f32 := (oV).slice (Rect.unit (s := S36864x128) (k1_off2 L 576#32) S576x128.size (k1_off2_inb L 1)) (fun _ => rfl)
/-- The index slice of pass `h` is block `blk c s h` of the 64 blocks. -/
theorem iRect_eq (h : Fin 2) : Rect.unit (s := S36864) (k1_off1 L (BitVec.ofNat 32 (576 * h.val))) S576.size (k1_off1_inb L h)
    = Rect.part (s := S36864) (a₀ := 0) iDvd (blk (cF L) (sF L) h) := by
  unfold Rect.part Rect.block
  congr 1 <;> funext a
  · rw [k1_off1_eq]
    match a with
    | 0 => have hc : (cF L).val = (L 0).val := rfl; have hs : (sF L).val = (L 1).val := rfl; simp [Shape.partIx, Shape.partSize, blk]; omega
  · match a with
    | 0 => simp [Shape.partSize]

/-- The result slice of pass `h` is block `blk c s h` of the 64 blocks. -/
theorem oRect_eq (h : Fin 2) : Rect.unit (s := S36864x128) (k1_off2 L (BitVec.ofNat 32 (576 * h.val))) S576x128.size (k1_off2_inb L h)
    = Rect.part (s := S36864x128) (a₀ := 0) oDvd (blk (cF L) (sF L) h) := by
  unfold Rect.part Rect.block
  congr 1 <;> funext a
  · rw [k1_off2_eq]
    match a with
    | 0 => have hc : (cF L).val = (L 0).val := rfl; have hs : (sF L).val = (L 1).val := rfl; simp [Shape.partIx, Shape.partSize, blk]; omega
    | 1 => simp [Shape.partIx, Shape.partSize]
  · match a with
    | 0 => simp [Shape.partSize]
    | 1 => simp [Shape.partSize]

/-- The first index block's elements. -/
theorem set_iSl0 : (iSl0 L).view.set = iSet (blk (cF L) (sF L) 0) := by
  show ((View.whole (main_v8_scv : Ref sig .scVector)).slice _).set = _
  rw [View.set_slice]; exact Finset.map_refl.trans (congrArg (fun r => r.set) (iRect_eq L 0))
/-- The second index block's elements. -/
theorem set_iSl1 : (iSl1 L).view.set = iSet (blk (cF L) (sF L) 1) := by
  show ((View.whole (main_v8_scv : Ref sig .scVector)).slice _).set = _
  rw [View.set_slice]; exact Finset.map_refl.trans (congrArg (fun r => r.set) (iRect_eq L 1))
/-- The first output block's elements. -/
theorem set_oSl0 : (oSl0 L).view.set = oSet (blk (cF L) (sF L) 0) := by
  show ((View.whole (main_v9_scv : Ref sig .scVector)).slice _).set = _
  rw [View.set_slice]; exact Finset.map_refl.trans (congrArg (fun r => r.set) (oRect_eq L 0))
/-- The second output block's elements. -/
theorem set_oSl1 : (oSl1 L).view.set = oSet (blk (cF L) (sF L) 1) := by
  show ((View.whole (main_v9_scv : Ref sig .scVector)).slice _).set = _
  rw [View.set_slice]; exact Finset.map_refl.trans (congrArg (fun r => r.set) (oRect_eq L 1))

/-- Holding the first index block, as the program slices it. -/
theorem pts_iSl0 (f : Buf (Elt F) (iLoc d)) : ((iSl0 L).view.loc (V d (cV L) (jV L)) ↦[(iSl0 L).view.set]{fullShare} f : sProp 𝕄)
    = iLoc d ↦[iSet (blk (cF L) (sF L) 0)]{fullShare} f := by rw [set_iSl0]
/-- Holding the second index block, as the program slices it. -/
theorem pts_iSl1 (f : Buf (Elt F) (iLoc d)) : ((iSl1 L).view.loc (V d (cV L) (jV L)) ↦[(iSl1 L).view.set]{fullShare} f : sProp 𝕄)
    = iLoc d ↦[iSet (blk (cF L) (sF L) 1)]{fullShare} f := by rw [set_iSl1]
/-- Holding the first output block, as the program slices it. -/
theorem pts_oSl0 (f : Buf (Elt F) (oLoc d)) : ((oSl0 L).view.loc (V d (cV L) (jV L)) ↦[(oSl0 L).view.set]{fullShare} f : sProp 𝕄)
    = oLoc d ↦[oSet (blk (cF L) (sF L) 0)]{fullShare} f := by rw [set_oSl0]
/-- Holding the second output block, as the program slices it. -/
theorem pts_oSl1 (f : Buf (Elt F) (oLoc d)) : ((oSl1 L).view.loc (V d (cV L) (jV L)) ↦[(oSl1 L).view.set]{fullShare} f : sProp 𝕄)
    = oLoc d ↦[oSet (blk (cF L) (sF L) 1)]{fullShare} f := by rw [set_oSl1]
/-- Holding a share of the table. -/
theorem pts_tV (q : PosShare TreeShare) (f : Buf (Elt F) (tLoc d)) :
    ((tV).view.loc (V d (cV L) (jV L)) ↦{q} f : sProp 𝕄) = tLoc d ↦{q} f := rfl
/-- Holding the tile's index scratch. -/
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
/-- Holding the tile's row scratch. -/
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-! ## The tile's own semaphores and scratch buffers -/

/-- The tile's cell of DMA semaphore `s`. -/
abbrev cellV (s : DmaSem sig) : GSem nD τ sig := (V d (cV L) (jV L), .dma s)

/-- A scoped DMA semaphore of the tile is among its cells. -/
theorem mem_cellV (s : DmaSem sig) (h : (SemLoc.dma s : SemLoc sig).isScoped .scVector = true) : cellV d L s ∈ ownCells (V d (cV L) (jV L)) :=
  mem_ownCells.mpr ⟨rfl, h⟩
/-- Different semaphores have different cells. -/
theorem cellV_ne {s s' : DmaSem sig} (h : s ≠ s') : cellV d L s ≠ cellV d L s' := fun e => h (by simpa [cellV] using e)

/-- The tile's semaphores, one by one. -/
theorem ownSems0_V :
    (ownSems0 (V d (cV L) (jV L)) : sProp 𝕄)
      = iprop(semVal (cellV d L cc1_scratch2.sem) 0 ∗ semVal (cellV d L cc1_scoped0.sem) 0 ∗ semVal (cellV d L cc1_scoped1.sem) 0
          ∗ semVal (cellV d L cc1_scoped2.sem) 0 ∗ semVal (cellV d L cc1_scoped3.sem) 0
          ∗ bigSep ((((((ownCells (V d (cV L) (jV L))).erase (cellV d L cc1_scratch2.sem)).erase (cellV d L cc1_scoped0.sem)).erase
              (cellV d L cc1_scoped1.sem)).erase (cellV d L cc1_scoped2.sem)).erase (cellV d L cc1_scoped3.sem)) fun g => semVal g 0) := by
  have e (s : DmaSem sig) (h : (SemLoc.dma s : SemLoc sig).isScoped .scVector = true) := mem_cellV d L s h
  have m0 := e cc1_scratch2.sem (by decide)
  have m1 := e cc1_scoped0.sem (by decide)
  have m2 := e cc1_scoped1.sem (by decide)
  have m3 := e cc1_scoped2.sem (by decide)
  have m4 := e cc1_scoped3.sem (by decide)
  have n (s s' : DmaSem sig) (h : s ≠ s') := cellV_ne d L h
  unfold SparseCore.Cfg.ownSems0
  rw [SparseCore.bigSep_erase' m0,
    SparseCore.bigSep_erase' (Finset.mem_erase.mpr ⟨n _ _ (by decide), m1⟩),
    SparseCore.bigSep_erase' (Finset.mem_erase.mpr ⟨n _ _ (by decide), Finset.mem_erase.mpr ⟨n _ _ (by decide), m2⟩⟩),
    SparseCore.bigSep_erase' (Finset.mem_erase.mpr ⟨n _ _ (by decide), Finset.mem_erase.mpr ⟨n _ _ (by decide),
      Finset.mem_erase.mpr ⟨n _ _ (by decide), m3⟩⟩⟩),
    SparseCore.bigSep_erase' (Finset.mem_erase.mpr ⟨n _ _ (by decide), Finset.mem_erase.mpr ⟨n _ _ (by decide),
      Finset.mem_erase.mpr ⟨n _ _ (by decide), Finset.mem_erase.mpr ⟨n _ _ (by decide), m4⟩⟩⟩⟩)]

/-- The two scratch buffers, at some contents, and the tile's other buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

variable [FloatOps F]
variable (t : (d : Dev nD) → Buf (Elt F) (tLoc d)) (g : (d : Dev nD) → Buf (Elt F) (iLoc d)) (o : (d : Dev nD) → Buf (Elt F) (oLoc d))

/-- A result block written whole with its part of `f'` is that part of `f'`. -/
theorem out_block (m : Memref sig .scVector .hbm S576x128 .f32) (f f' : Buf (Elt F) (m.view.loc (V d (cV L) (jV L)))) :
    (m.view.loc (V d (cV L) (jV L)) ↦[m.view.set]{fullShare}
        m.view.writes (Elt F) f [⟨Rect.whole S576x128, m.view.read (Elt F) f'⟩] : sProp 𝕄)
      = m.view.loc (V d (cV L) (jV L)) ↦[m.view.set]{fullShare} f' := by
  refine pointsTo_congr fun i hi => ?_
  obtain ⟨x, -, rfl⟩ := Finset.mem_map.mp hi
  have h := congrFun (read_writes_whole (Val := Elt F) m.view f (m.view.read (Elt F) f') []) x
  rw [View.read_apply, View.read_apply] at h
  exact (cast_inj _).mp h

/-- The words of an index block that the fetch has put into the list are row numbers. -/
theorem rows_inb (fs : Buf (Elt F) ((V d (cV L) (jV L)).loc cc1_scratch0)) (pay : S576.Idx → Elt F .i32)
    (hpay : ∀ x, (pay x : BitVec 32).toNat < 1024) :
    ∀ x, ((sV).view.read (Elt F) (View.write (Elt F) (sV).view fs pay Finset.univ) x : BitVec 32).toNat
      < S1024x128.size gathers_S1024x128_S576x128.axis := by
  intro x
  rw [View.write_whole_univ]
  simp only [Memref.view_whole, View.read_whole]
  exact hpay x

set_option maxHeartbeats 4000000 in
/-- The tile's whole task: from its blocks and its share of the table, to its blocks of the output holding the gathered rows. -/
theorem tile_body (hF : (K (F := F)).Facts) (hg : ∀ d x, (g d x : BitVec 32).toNat < 1024)
    (O : CellTallies nD τ sig (HIx 1)) (W : Waits sig (HIx 1)) (hO : ∀ g, O g none = 0) :
    iprop(levAts (K (F := F)).L (K (F := F)).lev ∗ emp
        ∗ tilePts t g o d (cF L) (sF L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gk L tV (Memref.isWhole_whole _) iV (Memref.isWhole_whole _) oV (Memref.isWhole_whole _)
            sV (Memref.isWhole_whole _) rV (Memref.isWhole_whole _) cc1_scratch2 cc1_scoped0 cc1_scoped1 cc1_scoped2 cc1_scoped3)
          fun _ => iprop(tilePts t g (done t g) d (cF L) (sF L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gk_eq_skeleton]; unfold cc1_gk_skel; simp only [k1_part1_eq_skeleton]; unfold k1_part1_skel
  rw [(K (F := F)).scopedBufs_V hF d (cV L) (jV L), SparseCore.Cfg.scopedSems0_V (Val := Elt F) d (cV L) (jV L), ownSems0_V, ownBufs_V]
  unfold tilePts idxPts tabPts outPts
  iintro ⟨#Hlv, -, ⟨⟨Hi0, Hi1⟩, Ht, ⟨Ho0, Ho1⟩⟩, ⟨⟨%fs, Hs⟩, ⟨%fr, Hr⟩, Hbufs⟩, ⟨HsemG, HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi0' := (Entails.of_eq (pts_iSl0 (F := F) d L _).symm) $$ Hi0
  ihave Hi1' := (Entails.of_eq (pts_iSl1 (F := F) d L _).symm) $$ Hi1
  ihave Ho0' := (Entails.of_eq (pts_oSl0 (F := F) d L _).symm) $$ Ho0
  ihave Ho1' := (Entails.of_eq (pts_oSl1 (F := F) d L _).symm) $$ Ho1
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  have hr0 : ∀ x, ((iSl0 L).view.read (Elt F) (g d) x : BitVec 32).toNat < 1024 := fun x => by
    rw [View.read_apply]; exact hg d _
  have hr1 : ∀ x, ((iSl1 L).view.read (Elt F) (g d) x : BitVec 32).toNat < 1024 := fun x => by
    rw [View.read_apply]; exact hg d _
  have hin0 := rows_inb d L fs (tile_body.sl.dma0 d L g) hr0
  sl_exec
  have hin1 := rows_inb d L (View.write (Elt F) (sV).view fs (tile_body.sl.dma0 d L g) Finset.univ) (tile_body.sl.dma0_2 d L g) hr1
  sl_exec
  have e0 : tile_body.sl.dma0_1 d L t g fs fr hin0 = (oSl0 L).view.read (Elt F) (done t g d) := by
    unfold tile_body.sl.dma0_1 tile_body.sl.gather0
    refine (read_writes_whole (Val := Elt F) (rV).view fr _ []).trans ?_
    exact gather_block (F := F) (t d) (g d) L 0 _ (by rw [View.write_whole_univ]; rfl) _ _
  have e1 : tile_body.sl.dma0_3 d L t g fs fr hin0 hin1 = (oSl1 L).view.read (Elt F) (done t g d) := by
    unfold tile_body.sl.dma0_3 tile_body.sl.gather0_1
    refine (read_writes_whole (Val := Elt F) (rV).view fr _ _).trans ?_
    exact gather_block (F := F) (t d) (g d) L 1 _ (by rw [View.write_whole_univ]; rfl) _ _
  rw [e0, e1]
  ihave Ho0 := (Entails.of_eq (out_block d L (oSl0 L) (o d) (done t g d))) $$ Ho0'
  ihave Ho1 := (Entails.of_eq (out_block d L (oSl1 L) (o d) (done t g d))) $$ Ho1'
  sl_step
  isplitl [Hi0' Hi1' Ht' Ho0 Ho1]
  · isplitl [Hi0' Hi1']
    · isplitl [Hi0']
      · iapply (Entails.of_eq (pts_iSl0 (F := F) d L _)); iexact Hi0'
      · iapply (Entails.of_eq (pts_iSl1 (F := F) d L _)); iexact Hi1'
    isplitl [Ht']; · iexact Ht'
    isplitl [Ho0]
    · iapply (Entails.of_eq (pts_oSl0 (F := F) d L _)); iexact Ho0
    · iapply (Entails.of_eq (pts_oSl1 (F := F) d L _)); iexact Ho1
  isplitl [Hs' Hr' Hbufs]
  · isplitl [Hs']; · iexists _; iexact Hs'
    isplitl [Hr']; · iexists _; iexact Hr'
    iexact Hbufs
  isplitl [HsemG HsemA HsemB HsemC HsemD Hsems]
  · isplitl [HsemG]; · iexact HsemG
    isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  simp only [Finset.mem_insert] at hp
  rcases hp with hp | hp | hp | hp | hp | hp | hp
  all_goals first | exact .inr (hp ▸ rfl) | exact .inl hp

end Cert.Proof

end
-- ==== Proof.Call.lean ====
/-
  The SparseCore call: what the handshakes carry, each tile's obligation, and the split of the three arrays over the
  tiles and back.
-/
module

public import proofs.«01_k».proof.Proof.Tile

@[expose] public section

noncomputable section

namespace Cert.Proof

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The call runs on two SparseCores. -/
theorem nCore_zero : (K (F := F)).nCore 0 = 2 := rfl
/-- Each of them has sixteen tiles. -/
theorem nSub_zero : (K (F := F)).nSub 0 = 16 := rfl

variable (t : (d : Dev nD) → Buf (Elt F) (tLoc d)) (g : (d : Dev nD) → Buf (Elt F) (iLoc d)) (o : (d : Dev nD) → Buf (Elt F) (oLoc d))

/-- What core `c`'s tiles take together, at the contents `f` of the result. -/
def corePts (f : (d : Dev nD) → Buf (Elt F) (oLoc d)) (d : Dev nD) (c : Fin 2) : sProp 𝕄 :=
  bigSep Finset.univ fun i : Fin ((K (F := F)).nSub 0) => tilePts t g f d c (Fin.cast nSub_zero i)

instance (d : Dev nD) (c : Fin 2) : BI.Storable (upEmb : UEmb _ 𝕄) (corePts t g o d c) := by unfold corePts; infer_instance

/-- The call gives every core its tiles' parts; a tile takes its part, and brings it back with the rows gathered. -/
def P : (K (F := F)).Pay (nD := nD) (Val := Elt F) (Name := ℕ) (U := UU) where
  st := fun q d c => match q with | 0 => corePts t g o d (Fin.cast nCore_zero c)
  dn := fun q d c => match q with | 0 => corePts t g (done t g) d (Fin.cast nCore_zero c)
  go := fun q d c i => match q with | 0 => tilePts t g o d (Fin.cast nCore_zero c) (Fin.cast nSub_zero i)
  td := fun q d c i => match q with | 0 => tilePts t g (done t g) d (Fin.cast nCore_zero c) (Fin.cast nSub_zero i)
  x := fun _ _ => iprop(emp)

/-- What the handshakes carry can be kept in an invariant. -/
instance P_storable : (P (F := F) t g o).IsStorable where
  st q d c := match q with
    | 0 => (inferInstance : BI.Storable (upEmb : UEmb _ 𝕄) (corePts t g o d (Fin.cast nCore_zero c)))
  dn q d c := match q with
    | 0 => (inferInstance : BI.Storable (upEmb : UEmb _ 𝕄) (corePts t g (done t g) d (Fin.cast nCore_zero c)))
  go q d c i := match q with
    | 0 => (inferInstance : BI.Storable (upEmb : UEmb _ 𝕄) (tilePts t g o d (Fin.cast nCore_zero c) (Fin.cast nSub_zero i)))
  td q d c i := match q with
    | 0 => (inferInstance : BI.Storable (upEmb : UEmb _ 𝕄) (tilePts t g (done t g) d (Fin.cast nCore_zero c) (Fin.cast nSub_zero i)))

/-! ## The obligation -/

variable [FloatOps F]

/-- The coordinates of tile `s` of core `c`. -/
def coordsV (c : Fin (grid1.bound 0)) (s : Fin (grid1.bound 1)) : grid1.Coords :=
  fun | 0 => c | 1 => s | ⟨_ + 2, h⟩ => absurd h (Nat.not_lt.2 (Nat.le_add_left _ _))

/-- A tile's task is the kernel's body at its coordinates. -/
theorem defs₀_vector (c : Fin τ.nSC) (s : Fin τ.nSub) :
    defs₀ (F := F) (.scVector c s) 1 ()
      = SparseCore.onTile hcore1 hsub1 (fun c s => cc1_gk (coordsV c s)
          tV (Memref.isWhole_whole _) iV (Memref.isWhole_whole _) oV (Memref.isWhole_whole _)
          sV (Memref.isWhole_whole _) rV (Memref.isWhole_whole _) cc1_scratch2 cc1_scoped0 cc1_scoped1 cc1_scoped2 cc1_scoped3) ⟨⟩ c s := rfl

omit [FloatOps F] in
/-- At the end of a tile's task: waits that are recorded as none of the call's may be counted with those that are the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile does what the call asks of it, provided every index names a row. -/
theorem tileObl (hg : ∀ d x, (g d x : BitVec 32).toNat < 1024) : (K (F := F)).TileObl (D (F := F)) 𝒱 (P t g o) v₀ 0 := by
  intro d c i O W hO _ _
  simp only [show (P t g o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) t g o launchFacts hg O W hO).trans (wp_mono frame _ _ fun _ => obl_post)

/-- A core's part is its tiles' parts, before and after. -/
theorem vecSplit : (K (F := F)).VecSplit' (P t g o) 0 := by
  intro d c
  show corePts t g o d (Fin.cast nCore_zero c) ⊢ |={Set.univ}=> iprop(
      corePts t g o d (Fin.cast nCore_zero c)
      ∗ (corePts t g (done t g) d (Fin.cast nCore_zero c) -∗ corePts t g (done t g) d (Fin.cast nCore_zero c)))
  iintro H; imodintro
  isplitl [H]; · iexact H
  iintro H; iexact H

/-! ## The three arrays as the tiles' parts -/

omit [FloatOps F] in
/-- A sum over the 64 blocks is the sum over cores, tiles and passes. -/
theorem bigSep_blocks (Φ : Fin 64 → sProp 𝕄) :
    bigSep Finset.univ Φ = bigSep Finset.univ fun c : Fin 2 => bigSep Finset.univ fun s : Fin 16 => iprop(Φ (blk c s 0) ∗ Φ (blk c s 1)) := by
  let e : Fin 2 × (Fin 16 × Fin 2) ≃ Fin 64 :=
    Equiv.ofBijective (fun p => blk p.1 p.2.1 p.2.2) (by
      constructor
      · intro p q h
        have h' : 4 * p.2.1.val + 2 * p.1.val + p.2.2.val = 4 * q.2.1.val + 2 * q.1.val + q.2.2.val := congrArg Fin.val h
        refine Prod.ext ?_ (Prod.ext ?_ ?_) <;> apply Fin.ext <;> omega
      · intro b
        exact ⟨⟨⟨b.val / 2 % 2, by omega⟩, ⟨b.val / 4, by omega⟩, ⟨b.val % 2, by omega⟩⟩, Fin.ext (by simp [blk]; omega)⟩)
  rw [bigSep_univ_equiv e, bigSep_univ_prod]
  refine bigSep_congr fun c _ => ?_
  rw [bigSep_univ_prod]
  refine bigSep_congr fun s _ => ?_
  rw [show (Finset.univ : Finset (Fin 2)) = {0, 1} by decide, SparseCore.bigSep_insert' (by decide), bigSep_singleton]
  rfl

omit [FloatOps F] in
/-- The index array is its blocks. -/
theorem iPts_blocks (d : Dev nD) (f : Buf (Elt F) (iLoc d)) :
    (iLoc d ↦{fullShare} f : sProp 𝕄) = bigSep Finset.univ fun b : Fin 64 => iLoc d ↦[iSet b]{fullShare} f := by
  rw [← pointsTo_biUnion Finset.univ (ℓ := iLoc d) iSet (fun i _ j _ h => Rect.part_disjoint iDvd h), Rect.biUnion_part iDvd]; try rfl
omit [FloatOps F] in
/-- The output is its blocks. -/
theorem oPts_blocks (d : Dev nD) (f : Buf (Elt F) (oLoc d)) :
    (oLoc d ↦{fullShare} f : sProp 𝕄) = bigSep Finset.univ fun b : Fin 64 => oLoc d ↦[oSet b]{fullShare} f := by
  rw [← pointsTo_biUnion Finset.univ (ℓ := oLoc d) oSet (fun i _ j _ h => Rect.part_disjoint oDvd h), Rect.biUnion_part oDvd]; try rfl
omit [FloatOps F] in
/-- The table is the read shares that the tiles take. -/
theorem tPts_shares (d : Dev nD) (f : Buf (Elt F) (tLoc d)) :
    (tLoc d ↦{fullShare} f : sProp 𝕄) = bigSep Finset.univ fun c : Fin 2 => bigSep Finset.univ fun s : Fin 16 => tLoc d ↦{tShare c s} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

omit [FloatOps F] in
/-- The indices, the codebook and the result, whole, are the parts of the two cores. -/
theorem cores_eq (f : (d : Dev nD) → Buf (Elt F) (oLoc d)) (d : Dev nD) :
    (bigSep Finset.univ fun c : Fin ((K (F := F)).nCore 0) => corePts t g f d (Fin.cast nCore_zero c))
      = (iprop((iLoc d ↦{fullShare} g d) ∗ (tLoc d ↦{fullShare} t d) ∗ oLoc d ↦{fullShare} f d) : sProp 𝕄) := by
  rw [iPts_blocks, oPts_blocks, tPts_shares, bigSep_blocks (F := F) fun b => iLoc d ↦[iSet b]{fullShare} g d,
    bigSep_blocks (F := F) fun b => oLoc d ↦[oSet b]{fullShare} f d, ← bigSep_sep', ← bigSep_sep']
  refine bigSep_congr fun c _ => ?_
  rw [← bigSep_sep', ← bigSep_sep']
  rfl

end Cert.Proof

end
-- ==== Proof.Host.lean ====
/-
  The host's part of @main: the straight lines of operations before and after the two calls, and what the buffers hold
  before the calls, between them and at the end.
-/
module

public import proofs.«01_k».proof.Proof.Region
public import proofs.«01_k».proof.Proof.Call
public import Idealize.ShloMosaic.Lib.Pipeline.RegionArrays

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The two lines of operations -/

/-- The operations before the calls. -/
abbrev opsIn : List (HloOp τ sig (Elt F)) :=
  [ StableHlo.reshape main_arg0 main_v0 (rfl : (.f32 : EltTy) = .f32) shapeCasts_S64x576x64_S36864x64,
    StableHlo.binary main_v0 main_v0 main_v1 (mulf : (⟨S36864x64, .f32⟩ : BufTy).Contents (Elt F) → (⟨S36864x64, .f32⟩ : BufTy).Contents (Elt F) → (⟨S36864x64, .f32⟩ : BufTy).Contents (Elt F)),
    StableHlo.nullary main_cst (constant S_ .f32 0x00000000#32),
    StableHlo.binary main_v1 main_cst main_v2 ((fun x v => Host.reduceAdd x v reducesTo_S36864x64_S36864_d1 h_S_) : (⟨S36864x64, .f32⟩ : BufTy).Contents (Elt F) → (⟨S_, .f32⟩ : BufTy).Contents (Elt F) → (⟨S36864, .f32⟩ : BufTy).Contents (Elt F)),
    StableHlo.unary main_v2 main_v3 (broadcastInDim S36864x1 ![0] bcast_S36864_S36864x1_0 : (⟨S36864, .f32⟩ : BufTy).Contents (Elt F) → (⟨S36864x1, .f32⟩ : BufTy).Contents (Elt F)),
    StableHlo.binary main_arg1 main_arg1 main_v4 (mulf : (⟨S1024x64, .f32⟩ : BufTy).Contents (Elt F) → (⟨S1024x64, .f32⟩ : BufTy).Contents (Elt F) → (⟨S1024x64, .f32⟩ : BufTy).Contents (Elt F)),
    StableHlo.nullary main_cst_0 (constant S_ .f32 0x00000000#32),
    StableHlo.binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_v5 main_v6 (broadcastInDim S1x1024 ![1] bcast_S1024_S1x1024_1 : (⟨S1024, .f32⟩ : BufTy).Contents (Elt F) → (⟨S1x1024, .f32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S1024x64, .f32⟩) main_call0.v0 main_call0.v1
      (fun x v => pad S1024x128 ![0, 0] ![0, 64] ![0, 0] x v pads_S1024x64_S1024x128_000_0640 h_S_) ]

/-- The operations after them. -/
abbrev opsOut : List (HloOp τ sig (Elt F)) :=
  [ StableHlo.unary main_v9 main_v10 ((extractStridedSlice S36864x64 ![0, 0] · slices_S36864x128_S36864x64_0_0) : (⟨S36864x128, .f32⟩ : BufTy).Contents (Elt F) → (⟨S36864x64, .f32⟩ : BufTy).Contents (Elt F)),
    StableHlo.reshape main_v8 main_v11 (rfl : (.i32 : EltTy) = .i32) shapeCasts_S36864_S64x576,
    StableHlo.reshape main_v10 main_v12 (rfl : (.f32 : EltTy) = .f32) shapeCasts_S36864x64_S64x576x64 ]

/-- @main is the first line, the TensorCore call, the SparseCore call and the second line. -/
theorem main_eq (d : Dev nD) : main (F := F) d
    = (StableHlo.seq opsIn >>= fun _ => SparseCore.liftProg (Prog.lift (.customCall (Pipeline.entry 0) ())) >>= fun _ =>
        sc.run d 0 >>= fun _ => StableHlo.seq opsOut >>= fun _ => pure ⟨⟩) := by
  simp only [main, fn_pad.body, StableHlo.seq, bind_assoc, pure_bind]
  rfl

/-- The first host operations touch unscoped buffers only. -/
theorem opsIn_sub : ∀ op ∈ (opsIn : List (HloOp τ sig (Elt F))), op.bufs ⊆ Pipeline.ucRefs τ sig := fun op h =>
  Pipeline.sub_ucRefs op (List.forall_iff_forall_mem.mp (show (opsIn : List (HloOp τ sig (Elt F))).Forall fun op => op.bufs ⊆ StableHlo.tcRefs τ sig from
    ⟨StableHlo.reshape_bufs_sub .., StableHlo.binary_bufs_sub .., StableHlo.nullary_bufs_sub .., StableHlo.binary_bufs_sub ..,
      StableHlo.unary_bufs_sub .., StableHlo.binary_bufs_sub .., StableHlo.nullary_bufs_sub .., StableHlo.binary_bufs_sub ..,
      StableHlo.unary_bufs_sub .., StableHlo.nullary_bufs_sub .., StableHlo.unary_bufs_sub .., StableHlo.binary_bufs_sub ..⟩) op h)

/-- The last host operations touch unscoped buffers only. -/
theorem opsOut_sub : ∀ op ∈ (opsOut : List (HloOp τ sig (Elt F))), op.bufs ⊆ Pipeline.ucRefs τ sig := fun op h =>
  Pipeline.sub_ucRefs op (List.forall_iff_forall_mem.mp (show (opsOut : List (HloOp τ sig (Elt F))).Forall fun op => op.bufs ⊆ StableHlo.tcRefs τ sig from
    ⟨StableHlo.unary_bufs_sub .., StableHlo.reshape_bufs_sub .., StableHlo.reshape_bufs_sub ..⟩) op h)

/-- The first host operations allocate nothing. -/
theorem opsIn_fresh : ∀ op ∈ (opsIn : List (HloOp τ sig (Elt F))), op.fresh = ∅ :=
  List.forall_iff_forall_mem.mp (by simp only [List.Forall]; repeat' constructor)

/-- The last host operations allocate nothing. -/
theorem opsOut_fresh : ∀ op ∈ (opsOut : List (HloOp τ sig (Elt F))), op.fresh = ∅ :=
  List.forall_iff_forall_mem.mp (by simp only [List.Forall]; repeat' constructor)

/-! ## What the buffers hold -/

variable (m : (ℓ : Loc nD τ sig) → Buf (Elt F) ℓ)

/-- Before the calls. -/
def valIn (d : Dev nD) : Valuation τ sig (Elt F) := StableHlo.after opsIn fun b => m (d, b)

/-- The contents with which the TensorCore call starts, by reference. -/
abbrev entry (d : Dev nD) (b : Ref sig .tc) : Buf (Elt F) ((d : Thread nD τ).loc b) := valIn m d (Proc.devRef .tc b)

/-- The indices that the TensorCore call leaves. -/
def idxOf (d : Dev nD) : Buf (Elt F) (iLoc d) := (dats (entry m) 0 d).arrAt 4 cfg0.N

/-- Between the calls. -/
def valMid (d : Dev nD) : Valuation τ sig (Elt F) := Function.update (valIn m d) (Proc.devRef .tc main_v8) (idxOf m d)

/-- The padded codebook, for the SparseCore call. -/
abbrev tabOf (d : Dev nD) : Buf (Elt F) (tLoc d) := valIn m d (Proc.devRef .tc main_v7)
/-- The result buffer of the SparseCore call before it. -/
abbrev oldOf (d : Dev nD) : Buf (Elt F) (oLoc d) := valIn m d (Proc.devRef .tc main_v9)

/-- After the calls. -/
def valCall (d : Dev nD) : Valuation τ sig (Elt F) :=
  Function.update (valMid m d) (Proc.devRef .tc main_v9) (done (tabOf m) (idxOf m) d)

/-- At the end. -/
def valEnd (d : Dev nD) : Valuation τ sig (Elt F) := StableHlo.after opsOut (valCall m d)

/-- Between the calls the index array holds the indices. -/
theorem valMid_v8 (d : Dev nD) : valMid m d (Proc.devRef .tc main_v8) = idxOf m d := Function.update_self ..
/-- Between the calls every other buffer is as before. -/
theorem valMid_ne (d : Dev nD) (b : Ref sig .tc) (h : b ≠ main_v8) :
    valMid m d (Proc.devRef .tc b) = valIn m d (Proc.devRef .tc b) :=
  Function.update_of_ne (StableHlo.devRef_ne_of_ne h) ..
/-- After the SparseCore call its output holds the gathered rows. -/
theorem valCall_v9 (d : Dev nD) : valCall m d (Proc.devRef .tc main_v9) = done (tabOf m) (idxOf m) d := Function.update_self ..
/-- After the SparseCore call every other buffer is as before. -/
theorem valCall_ne (d : Dev nD) (b : Ref sig .tc) (h : b ≠ main_v9) :
    valCall m d (Proc.devRef .tc b) = valMid m d (Proc.devRef .tc b) :=
  Function.update_of_ne (StableHlo.devRef_ne_of_ne h) ..

end Cert.Proof

end
-- ==== Proof.HostValue.lean ====
module

public import proofs.«01_k».proof.Proof.Host
public import Idealize.ShloMosaic.Lib.KernelVsHost
public import Idealize.ShloMosaic.Lib.Pointwise
public import Idealize.ShloMosaic.Lib.Pointwise.Reduce

@[expose] public section

set_option maxRecDepth 16384

noncomputable section

namespace Cert.Proof

open Cert.KernelIdeal Cert.KernelIdeal.Gen
open Idealize.ShloMosaic Idealize.ShloMosaic.TcCoe

section Any

variable {F : FTy → Type} [FloatOps F] (m : (ℓ : Loc nD τ sig) → Buf (Elt F) ℓ)

/-- The input as a list of rows. -/
def rowsOf (x : Vec F S64x576x64 .f32) : Vec F S36864x64 .f32 := shapeCast S36864x64 x shapeCasts_S64x576x64_S36864x64

/-- The squared row lengths, as a column. -/
def sqCol (x : Vec F S36864x64 .f32) : Vec F S36864x1 .f32 :=
  broadcastInDim S36864x1 ![0] bcast_S36864_S36864x1_0
    (Host.reduceAdd (mulf x x) (constant S_ .f32 0x00000000#32) reducesTo_S36864x64_S36864_d1 h_S_)

/-- The squared codebook row lengths, as a line. -/
def sqLine (c : Vec F S1024x64 .f32) : Vec F S1x1024 .f32 :=
  broadcastInDim S1x1024 ![1] bcast_S1024_S1x1024_1
    (Host.reduceAdd (mulf c c) (constant S_ .f32 0x00000000#32) reducesTo_S1024x64_S1024_d1 h_S_)

/-- The codebook widened to 128 lanes. -/
def wide (c : Vec F S1024x64 .f32) : Vec F S1024x128 .f32 :=
  pad S1024x128 ![0, 0] ![0, 64] ![0, 0] c (sitofp .f32 (constantI S_ 32 0#32)) pads_S1024x64_S1024x128_000_0640 h_S_

/-- The TensorCore call is given the rows of the input. -/
theorem valIn_v0 (d : Dev nD) : valIn m d (Proc.devRef .tc main_v0) = rowsOf (m (d, Proc.devRef .tc main_arg0)) := by
  unfold valIn opsIn
  after_results_simp
  rfl
/-- It is given their squared lengths. -/
theorem valIn_v3 (d : Dev nD) : valIn m d (Proc.devRef .tc main_v3) = sqCol (rowsOf (m (d, Proc.devRef .tc main_arg0))) := by
  unfold valIn opsIn
  after_results_simp
  rfl
/-- It is given the squared lengths of the codebook rows. -/
theorem valIn_v6 (d : Dev nD) : valIn m d (Proc.devRef .tc main_v6) = sqLine (m (d, Proc.devRef .tc main_arg1)) := by
  unfold valIn opsIn
  after_results_simp
  rfl
/-- The SparseCore call is given the widened codebook. -/
theorem valIn_v7 (d : Dev nD) : valIn m d (Proc.devRef .tc main_v7) = wide (m (d, Proc.devRef .tc main_arg1)) := by
  unfold valIn opsIn
  after_results_simp
  rfl
/-- The input is unchanged before the calls. -/
theorem valIn_arg0 (d : Dev nD) : valIn m d (Proc.devRef .tc main_arg0) = m (d, Proc.devRef .tc main_arg0) := by
  unfold valIn opsIn
  after_results_simp
/-- The codebook is unchanged before the calls. -/
theorem valIn_arg1 (d : Dev nD) : valIn m d (Proc.devRef .tc main_arg1) = m (d, Proc.devRef .tc main_arg1) := by
  unfold valIn opsIn
  after_results_simp

/-- The first result is the index array, in the shape of the batch. -/
theorem valEnd_v11 (d : Dev nD) : valEnd m d (Proc.devRef .tc main_v11)
    = shapeCast S64x576 (idxOf m d : Vec F S36864 .i32) shapeCasts_S36864_S64x576 := by
  unfold valEnd opsOut
  after_results_simp
  rw [valCall_ne m d main_v8 (by decide), valMid_v8]
  rfl
/-- The second result is the gathered rows less their fill, in the shape of the batch. -/
theorem valEnd_v12 (d : Dev nD) : valEnd m d (Proc.devRef .tc main_v12)
    = shapeCast S64x576x64 (extractStridedSlice S36864x64 ![0, 0]
        (gathered (wide (m (d, Proc.devRef .tc main_arg1))) (idxOf m d) : Vec F S36864x128 .f32)
        slices_S36864x128_S36864x64_0_0) shapeCasts_S36864x64_S64x576x64 := by
  unfold valEnd opsOut
  after_results_simp
  rw [valCall_v9]
  unfold done
  rw [show tabOf m d = wide (m (d, Proc.devRef .tc main_arg1)) from valIn_v7 m d]
  rfl
/-- The input is unchanged at the end. -/
theorem valEnd_arg0 (d : Dev nD) : valEnd m d (Proc.devRef .tc main_arg0) = m (d, Proc.devRef .tc main_arg0) := by
  unfold valEnd opsOut
  after_results_simp
  rw [valCall_ne m d main_arg0 (by decide), valMid_ne m d main_arg0 (by decide), valIn_arg0]
/-- The codebook is unchanged at the end. -/
theorem valEnd_arg1 (d : Dev nD) : valEnd m d (Proc.devRef .tc main_arg1) = m (d, Proc.devRef .tc main_arg1) := by
  unfold valEnd opsOut
  after_results_simp
  rw [valCall_ne m d main_arg1 (by decide), valMid_ne m d main_arg1 (by decide), valIn_arg1]

/-- The first 64 lanes of a widened row are the row. -/
theorem wide_apply (c : Vec F S1024x64 .f32) (k : Fin 1024) (i : Fin 64) :
    wide c (tIx k ⟨i.val, by omega⟩) = c (ix2 k i) := by
  unfold wide
  refine pad_apply_of_inside _ _ _ _ _ _ _ _ (ix2 k i : S1024x64.Idx) fun a => ?_
  match a with
  | ⟨0, _⟩ => show k.val = 0 + k.val * (0 + 1); omega
  | ⟨1, _⟩ => show i.val = 0 + i.val * (0 + 1); omega

/-- The gathered rows less their fill: row `n` is the codebook row that index `n` names. -/
theorem slice_gathered (c : Vec F S1024x64 .f32) (g : IVec S36864 32) (n : Fin 36864) (i : Fin 64) :
    extractStridedSlice S36864x64 ![0, 0] (gathered (wide c) g) slices_S36864x128_S36864x64_0_0 (ix2 n i)
      = c (ix2 (rowOf (g (ix1 n))) i) := by
  refine Eq.trans ?_ (wide_apply c (rowOf (g (ix1 n))) i)
  simp only [pointwise]
  unfold gathered
  congr 1
  funext a
  apply Fin.ext
  match a with
  | ⟨0, _⟩ =>
    show (rowOf (g (iIx ⟨0 + n.val, _⟩))).val = (rowOf (g (ix1 n))).val
    congr 3
    funext b
    match b with
    | ⟨0, _⟩ => exact Fin.ext (Nat.zero_add _)
  | ⟨1, _⟩ => exact Nat.zero_add _

end Any

/-- A squared row length is a sum of squares. -/
theorem sqCol_apply (x : Vec Ideal S36864x64 .f32) (n : Fin 36864) :
    sqCol x (ix2 n 0) = ∑ i : Fin 64, x (ix2 n i) * x (ix2 n i) := by
  unfold sqCol
  simp only [pointwise, Host.reduceAdd, Ideal.hostReduceAdd_def]
  have e : ¬(36864 : ℕ) = 1 := by decide
  simp only [zero_add]
  exact Finset.sum_congr rfl fun i _ => congrArg (fun r => x (ix2 r i) * x (ix2 r i)) (dif_neg e)

/-- A squared codebook row length is a sum of squares. -/
theorem sqLine_apply (c : Vec Ideal S1024x64 .f32) (k : Fin 1024) :
    sqLine c (ix2 0 k) = ∑ i : Fin 64, c (ix2 k i) * c (ix2 k i) := by
  unfold sqLine
  simp only [pointwise, Host.reduceAdd, Ideal.hostReduceAdd_def]
  have e : ¬(1024 : ℕ) = 1 := by decide
  simp only [zero_add]
  exact Finset.sum_congr rfl fun i _ => congrArg (fun r => c (ix2 r i) * c (ix2 r i)) (dif_neg e)

end Cert.Proof

end
-- ==== Proof.Least.lean ====
/-
  The first position of a row's least value, and the two ways of finding it: by the row's minimum and then the least
  position that attains it, and by one pass that keeps the lesser of two (value, position) pairs.
-/
module

public import proofs.«01_k».proof.Proof.Gen.ReferenceIdeal
public import Mathlib.Data.Prod.Lex
public import Mathlib.Data.Finset.Fold
public import Mathlib.Data.EReal.Basic
public import Idealize.ShloMosaic.Lib.Pointwise.Reduce

@[expose] public section

noncomputable section

namespace Cert.Proof

open Idealize.ShloMosaic

/-- Where a row is least. -/
def leastAt (s : Fin 1024 → EReal) : Finset (Fin 1024) := by
  classical exact Finset.univ.filter fun k => ∀ k', s k ≤ s k'

/-- A position is among the least ones when its value is below every other. -/
theorem mem_leastAt (s : Fin 1024 → EReal) (k : Fin 1024) : k ∈ leastAt s ↔ ∀ k', s k ≤ s k' := by
  classical simp [leastAt]

/-- Some position has the least value. -/
theorem leastAt_nonempty (s : Fin 1024 → EReal) : (leastAt s).Nonempty :=
  (Finite.exists_min s).imp fun k hk => (mem_leastAt s k).mpr hk

/-- The first position of the row's least value. -/
def first (s : Fin 1024 → EReal) : Fin 1024 := (leastAt s).min' (leastAt_nonempty s)

/-- It is a least value. -/
theorem first_le (s : Fin 1024 → EReal) (k : Fin 1024) : s (first s) ≤ s k :=
  (mem_leastAt s _).mp (Finset.min'_mem _ _) k

/-- No earlier position, nor any position of an equal value, comes before it. -/
theorem first_min (s : Fin 1024 → EReal) (k : Fin 1024) (h : s k = s (first s)) : first s ≤ k :=
  Finset.min'_le _ _ ((mem_leastAt s k).mpr fun k' => h.le.trans (first_le s k'))

/-- A row's minimum is its value at the first position. -/
theorem fold_min (s : Fin 1024 → EReal) : (Finset.univ : Finset (Fin 1024)).fold min ⊤ s = s (first s) := by
  refine le_antisymm ?_ ?_
  · exact (Finset.fold_min_le _).mpr (Or.inr ⟨first s, Finset.mem_univ _, le_rfl⟩)
  · exact (Finset.le_fold_min _).mpr ⟨le_top, fun k _ => first_le s k⟩

/-- A position, as a signed word, is itself. -/
theorem toInt_pos (k : Fin 1024) : (BitVec.ofNat 32 k.val).toInt = k.val := by
  rw [BitVec.toInt_eq_toNat_cond, BitVec.toNat_ofNat]
  have := k.isLt
  have e : k.val % 2 ^ 32 = k.val := Nat.mod_eq_of_lt (by omega)
  rw [e, if_pos (by omega)]

/-- The signed minimum of two words, read as integers. -/
theorem toInt_minsi (a b : BitVec 32) : (IntOp.minsi a b).toInt = min a.toInt b.toInt := by
  unfold IntOp.minsi
  split <;> rename_i h
  · rw [BitVec.slt_iff_toInt_lt] at h; exact (min_eq_left h.le).symm
  · rw [BitVec.slt_iff_toInt_lt] at h; exact (min_eq_right (not_lt.mp h)).symm

/-- The least position among those that attain the row's minimum, each other position standing for 1024. -/
theorem fold_minsi (s : Fin 1024 → EReal) (w : Fin 1024 → BitVec 32)
    (hw : ∀ k, w k = if s k = s (first s) then BitVec.ofNat 32 k.val else 1024#32)
    [Std.Commutative (IntOp.minsi (w := 32))] [Std.Associative (IntOp.minsi (w := 32))] :
    (Finset.univ : Finset (Fin 1024)).fold IntOp.minsi 2147483647#32 w = BitVec.ofNat 32 (first s).val := by
  apply BitVec.eq_of_toInt_eq
  have hh := Finset.fold_hom (op := IntOp.minsi (w := 32)) (op' := (min : ℤ → ℤ → ℤ)) (m := BitVec.toInt) (s := Finset.univ)
    (b := 2147483647#32) (f := w) fun a b => toInt_minsi a b
  rw [← hh, toInt_pos]
  refine le_antisymm ?_ ?_
  · refine (Finset.fold_min_le _).mpr (Or.inr ⟨first s, Finset.mem_univ _, ?_⟩)
    rw [hw, if_pos rfl, toInt_pos]
  · refine (Finset.le_fold_min _).mpr ⟨?_, fun k _ => ?_⟩
    · have : (2147483647#32 : BitVec 32).toInt = 2147483647 := by decide
      have := (first s).isLt; omega
    · rw [hw]
      split <;> rename_i h
      · rw [toInt_pos]; exact_mod_cast first_min s k h
      · have : (1024#32 : BitVec 32).toInt = 1024 := by decide
        have := (first s).isLt; omega

/-! ## One pass over pairs -/

/-- A (value, position) pair, ordered by value and then by position. -/
def key (p : EReal × BitVec 32) : EReal ×ₗ ℤ := toLex (p.1, p.2.toInt)

/-- A pair is determined by its key. -/
theorem key_injective : Function.Injective key := fun p q h => by
  have h' : (p.1, p.2.toInt) = (q.1, q.2.toInt) := toLex.injective h
  exact Prod.ext (Prod.ext_iff.mp h').1 (BitVec.eq_of_toInt_eq (Prod.ext_iff.mp h').2)

/-- One step of the pass: the left pair if it has the lesser value, or an equal value and the lesser position. -/
theorem pick_eq (a b : EReal × BitVec 32) :
    Cert.ReferenceIdeal.reducer_argmin_f32_i32 (F := Ideal) a b
      = (Scalar.select (IntOp.ori (Ideal.cmp .olt a.1 b.1) (Ideal.cmp .une a.1 a.1)) a.1 b.1,
          Scalar.select (IntOp.ori (IntOp.ori (Ideal.cmp .olt a.1 b.1) (Ideal.cmp .une a.1 a.1))
            (IntOp.andi (Ideal.cmp .oeq a.1 b.1) (IntOp.cmpi .slt a.2 b.2))) a.2 b.2) := rfl

/-- The pass keeps the lesser pair. -/
theorem key_pick (a b : EReal × BitVec 32) :
    key (Cert.ReferenceIdeal.reducer_argmin_f32_i32 (F := Ideal) a b) = min (key a) (key b) := by
  rw [pick_eq]
  obtain ⟨u, i⟩ := a
  obtain ⟨v, j⟩ := b
  have hlt : key (u, i) ≤ key (v, j) ↔ u < v ∨ u = v ∧ i.toInt ≤ j.toInt := Prod.Lex.le_iff
  have hslt : (i.slt j = true) ↔ i.toInt < j.toInt := BitVec.slt_iff_toInt_lt
  have hne : Ideal.cmp .une u u = 0#1 := by simp [Ideal.cmp]
  rw [hne]
  rcases lt_trichotomy u v with h | h | h
  · rw [min_eq_left (hlt.mpr (Or.inl h))]
    have e : Ideal.cmp .olt u v = 1#1 := by simp [Ideal.cmp, h]
    have e' : Ideal.cmp .oeq u v = 0#1 := by simp [Ideal.cmp, h.ne]
    simp only [e, e']
    simp [Scalar.select, IntOp.ori, IntOp.andi]
  · subst h
    have e : Ideal.cmp .olt u u = 0#1 := by simp [Ideal.cmp]
    have e' : Ideal.cmp .oeq u u = 1#1 := by simp [Ideal.cmp]
    simp only [e, e']
    by_cases hij : i.toInt < j.toInt
    · rw [min_eq_left (hlt.mpr (Or.inr ⟨rfl, hij.le⟩))]
      have e2 : IntOp.cmpi .slt i j = 1#1 := by simp [IntOp.cmpi, hslt.mpr hij]
      simp only [e2]
      simp [Scalar.select, IntOp.ori, IntOp.andi]
    · have hji : key (u, j) ≤ key (u, i) := Prod.Lex.le_iff.mpr (Or.inr ⟨rfl, not_lt.mp hij⟩)
      rw [min_eq_right hji]
      have e2 : IntOp.cmpi .slt i j = 0#1 := by
        have : i.slt j = false := by rw [← Bool.not_eq_true, hslt]; exact hij
        simp [IntOp.cmpi, this]
      simp only [e2]
      simp [Scalar.select, IntOp.ori, IntOp.andi]
  · have hji : key (v, j) ≤ key (u, i) := Prod.Lex.le_iff.mpr (Or.inl h)
    rw [min_eq_right hji]
    have e : Ideal.cmp .olt u v = 0#1 := by simp [Ideal.cmp, not_lt.mpr h.le]
    have e' : Ideal.cmp .oeq u v = 0#1 := by simp [Ideal.cmp, h.ne']
    simp only [e, e']
    simp [Scalar.select, IntOp.ori, IntOp.andi]

/-- Picking the smaller of two pairs does not depend on their order. -/
instance pick_comm : Std.Commutative (Cert.ReferenceIdeal.reducer_argmin_f32_i32 (F := Ideal)) :=
  ⟨fun a b => key_injective (by rw [key_pick, key_pick, min_comm])⟩

/-- Picking the smallest of three pairs does not depend on the grouping. -/
instance pick_assoc : Std.Associative (Cert.ReferenceIdeal.reducer_argmin_f32_i32 (F := Ideal)) :=
  ⟨fun a b c => key_injective (by simp only [key_pick, min_assoc])⟩

/-- The pass from the pair (infinity, 0) ends at the first position of the least value. -/
theorem fold_pick (s : Fin 1024 → EReal) :
    (Finset.univ : Finset (Fin 1024)).fold (Cert.ReferenceIdeal.reducer_argmin_f32_i32 (F := Ideal)) ((⊤ : EReal), 0#32)
        (fun k => (s k, BitVec.ofNat 32 k.val))
      = (s (first s), BitVec.ofNat 32 (first s).val) := by
  apply key_injective
  have hh := Finset.fold_hom (op := Cert.ReferenceIdeal.reducer_argmin_f32_i32 (F := Ideal))
    (op' := (min : EReal ×ₗ ℤ → EReal ×ₗ ℤ → EReal ×ₗ ℤ)) (m := key) (s := (Finset.univ : Finset (Fin 1024)))
    (b := ((⊤ : EReal), 0#32)) (f := fun k : Fin 1024 => (s k, BitVec.ofNat 32 k.val)) key_pick
  rw [← hh]
  have hle : ∀ k : Fin 1024, key (s (first s), BitVec.ofNat 32 (first s).val) ≤ key (s k, BitVec.ofNat 32 k.val) := fun k => by
    refine Prod.Lex.le_iff.mpr ?_
    show s (first s) < s k ∨ s (first s) = s k ∧ (BitVec.ofNat 32 (first s).val).toInt ≤ (BitVec.ofNat 32 k.val).toInt
    rcases (first_le s k).lt_or_eq with h | h
    · exact Or.inl h
    · refine Or.inr ⟨h, ?_⟩
      rw [toInt_pos, toInt_pos]; exact_mod_cast first_min s k h.symm
  refine le_antisymm ?_ ?_
  · exact (Finset.fold_min_le _).mpr (Or.inr ⟨first s, Finset.mem_univ _, le_rfl⟩)
  · refine (Finset.le_fold_min _).mpr ⟨(hle 0).trans ?_, fun k _ => hle k⟩
    refine Prod.Lex.le_iff.mpr ?_
    show s 0 < ⊤ ∨ s 0 = ⊤ ∧ _
    rcases (le_top : s 0 ≤ ⊤).lt_or_eq with h | h
    · exact Or.inl h
    · exact Or.inr ⟨h, le_rfl⟩

end Cert.Proof

end
-- ==== Proof.IndexValue.lean ====
/-
  What one block of the TensorCore call computes over the extended reals: for each row, the first position of the least
  score of the row against the codebook.
-/
module

public import proofs.«01_k».proof.Proof.Least
public import proofs.«01_k».proof.Proof.Gen.KernelIdeal.Skeleton
public import Idealize.ShloMosaic.Lib.MatmulPlain
public import Idealize.ShloMosaic.Lib.Pointwise

@[expose] public section

set_option maxRecDepth 16384

noncomputable section

namespace Cert.Proof

open Cert.KernelIdeal Cert.KernelIdeal.Gen
open Idealize.ShloMosaic

/-- The squared distance, from the two squared norms and the inner product, cut off below at zero. -/
def sqDist (a b p : EReal) : EReal := max (a + b - 2 * p) 0

/-- The kernel's distance: the squared distance times its reciprocal root, and zero at zero. -/
def score (a b p : EReal) : EReal := if sqDist a b p = 0 then 0 else sqDist a b p * Ideal.rsqrt (sqDist a b p)

/-- The literal that scales the inner product is 2. -/
theorem two_f32 : Ideal.ofBits .f32 0x40000000#32 = 2 := by
  have h : ((8388608 : ℝ) : EReal) * (((2 ^ 22 : ℝ)⁻¹ : ℝ) : EReal) = 2 := by
    rw [← EReal.coe_mul, show (8388608 : ℝ) * (2 ^ 22)⁻¹ = 2 by norm_num]; rfl
  simp [Ideal.ofBits, Ideal.ieee]
  exact h

/-- The literal of infinity is infinity. -/
theorem top_f32 : Ideal.ofBits .f32 0x7F800000#32 = ⊤ := by
  simp [Ideal.ofBits, Ideal.ieee]

/-- One block's index at row `r`. -/
theorem pay_apply (v0 : Vec Ideal S6144x64 .f32) (v2 : Vec Ideal S1024x64 .f32) (v4 : Vec Ideal S6144x1 .f32)
    (v6 : Vec Ideal S1x1024 .f32) (r : Fin 6144) :
    k0_pay1 (F := Ideal) v0 v2 v4 v6 (ix1 r)
      = BitVec.ofNat 32 (first fun k => score (v4 (ix2 r 0)) (v6 (ix2 0 k)) (∑ i : Fin 64, v0 (ix2 r i) * v2 (ix2 k i))).val := by
  unfold k0_pay1
  simp only [pointwise]
  have e1 : ¬(6144 : ℕ) = 1 := by decide
  have e2 : ¬(1024 : ℕ) = 1 := by decide
  simp only [e1, e2, dif_neg, not_false_eq_true, dif_pos, zero_add, two_f32, top_f32]
  let s : Fin 1024 → EReal := fun k => score (v4 (ix2 r 0)) (v6 (ix2 0 k)) (∑ i : Fin 64, v0 (ix2 r i) * v2 (ix2 k i))
  refine fold_minsi s _ fun k => ?_
  rw [← fold_min s]
  have e3 : List.foldl (fun (n : ℕ) (a : Fin 2) => n * (![6144, 1024] : Fin 2 → ℕ) a + (ix2 r k a).val) 0 [1] = k.val := by
    simp
  rw [show BitVec.ofNat 32 k.val = BitVec.ofNat 32 (List.foldl (fun (n : ℕ) (a : Fin 2) => n * (![6144, 1024] : Fin 2 → ℕ) a + (ix2 r k a).val) 0 [1]) from congrArg _ e3.symm]
  rfl

end Cert.Proof

end
-- ==== Proof.IndexArray.lean ====
module

public import proofs.«01_k».proof.Proof.Host
public import proofs.«01_k».proof.Proof.IndexValue
public import Idealize.ShloMosaic.Lib.Pipeline.Value
public import Idealize.ShloMosaic.Lib.Pipeline.ValueKit.Basic

/-! # The index array after the TensorCore call

The call walks six blocks of 6144 rows. Block `t` of the index array is the body's result on block `t` of the rows, so
entry `6144 t + r` is the codebook row of least score for input row `6144 t + r`. -/

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat)

variable {F : FTy → Type} [FloatOps F]

/-- One stored whole block is what the body leaves. -/
theorem bodyOut_eq [∀ e, Nonempty (Elt F e)] (x : Vec F S6144x64 .f32) (c : Vec F S1024x64 .f32) (xs : Vec F S6144x1 .f32)
    (cs : Vec F S1x1024 .f32) : bodyOut x c xs cs = k0_pay1 x c xs cs := by
  unfold bodyOut rI
  rw [View.canon_cons_unit_lit _ _ _ (by decide)]
  rw [View.ld_unit_lit (S := S6144x64) _ x (by decide), View.ld_unit_lit (S := S1024x64) _ c (by decide),
    View.ld_unit_lit (S := S6144x1) _ xs (by decide), View.ld_unit_lit (S := S1x1024) _ cs (by decide)]

/-- The input row at place `r` of block `t`. -/
abbrev rowAt (t : Fin cfg0.N) (r : Fin 6144) : Fin 36864 :=
  ⟨6144 * t.val + r.val, by have := t.isLt; have h : cfg0.N = 6 := rfl; omega⟩

/-- Step `t` reads block `t` of the rows. -/
theorem index_0 : ∀ t : Fin cfg0.N, win0_0.index t 0 = t.val ∧ win0_0.index t 1 = 0 :=
  (by decide +kernel : ∀ t : Fin grid0.N, win0_0.index t 0 = t.val ∧ win0_0.index t 1 = 0)
/-- Every step reads the whole codebook. -/
theorem index_1 : ∀ t : Fin cfg0.N, win0_1.index t 0 = 0 ∧ win0_1.index t 1 = 0 :=
  (by decide +kernel : ∀ t : Fin grid0.N, win0_1.index t 0 = 0 ∧ win0_1.index t 1 = 0)
/-- Step `t` reads block `t` of the squared row lengths. -/
theorem index_2 : ∀ t : Fin cfg0.N, win0_2.index t 0 = t.val ∧ win0_2.index t 1 = 0 :=
  (by decide +kernel : ∀ t : Fin grid0.N, win0_2.index t 0 = t.val ∧ win0_2.index t 1 = 0)
/-- Every step reads all squared codebook row lengths. -/
theorem index_3 : ∀ t : Fin cfg0.N, win0_3.index t 0 = 0 ∧ win0_3.index t 1 = 0 :=
  (by decide +kernel : ∀ t : Fin grid0.N, win0_3.index t 0 = 0 ∧ win0_3.index t 1 = 0)
/-- Step `t` writes block `t` of the indices. -/
theorem index_4 : ∀ t : Fin cfg0.N, win0_4.index t 0 = t.val :=
  (by decide +kernel : ∀ t : Fin grid0.N, win0_4.index t 0 = t.val)

variable (A : (d : Dev nD) → (b : Ref sig .tc) → Buf (Elt F) ((d : Thread nD τ).loc b))

/-- Block `t` of the rows. -/
theorem wblk_0 (d : Dev nD) (t : Fin cfg0.N) (r : Fin 6144) (i : Fin 64) :
    (wblk A d 0 t : Vec F S6144x64 .f32) (ix2 r i) = (A d main_v0 : Vec F S36864x64 .f32) (ix2 (rowAt t r) i) := by
  unfold wblk
  rw [View.read_apply]
  show A d main_v0 _ = A d main_v0 _
  congr 1
  funext a
  apply Fin.ext
  match a with
  | ⟨0, _⟩ => show win0_0.index t 0 * 6144 + 1 * r.val = 6144 * t.val + r.val; rw [(index_0 t).1]; omega
  | ⟨1, _⟩ => show win0_0.index t 1 * 64 + 1 * i.val = i.val; rw [(index_0 t).2]; omega

/-- The codebook, the same at every point. -/
theorem wblk_1 (d : Dev nD) (t : Fin cfg0.N) (k : Fin 1024) (i : Fin 64) :
    (wblk A d 1 t : Vec F S1024x64 .f32) (ix2 k i) = (A d main_arg1 : Vec F S1024x64 .f32) (ix2 k i) := by
  unfold wblk
  rw [View.read_apply]
  show A d main_arg1 _ = A d main_arg1 _
  congr 1
  funext a
  apply Fin.ext
  match a with
  | ⟨0, _⟩ => show win0_1.index t 0 * 1024 + 1 * k.val = k.val; rw [(index_1 t).1]; omega
  | ⟨1, _⟩ => show win0_1.index t 1 * 64 + 1 * i.val = i.val; rw [(index_1 t).2]; omega

/-- Block `t` of the squared row lengths. -/
theorem wblk_2 (d : Dev nD) (t : Fin cfg0.N) (r : Fin 6144) :
    (wblk A d 2 t : Vec F S6144x1 .f32) (ix2 r 0) = (A d main_v3 : Vec F S36864x1 .f32) (ix2 (rowAt t r) 0) := by
  unfold wblk
  rw [View.read_apply]
  show A d main_v3 _ = A d main_v3 _
  congr 1
  funext a
  apply Fin.ext
  match a with
  | ⟨0, _⟩ => show win0_2.index t 0 * 6144 + 1 * r.val = 6144 * t.val + r.val; rw [(index_2 t).1]; omega
  | ⟨1, _⟩ => show win0_2.index t 1 * 1 + 1 * 0 = 0; rw [(index_2 t).2]

/-- The squared codebook row lengths, the same at every point. -/
theorem wblk_3 (d : Dev nD) (t : Fin cfg0.N) (k : Fin 1024) :
    (wblk A d 3 t : Vec F S1x1024 .f32) (ix2 0 k) = (A d main_v6 : Vec F S1x1024 .f32) (ix2 0 k) := by
  unfold wblk
  rw [View.read_apply]
  show A d main_v6 _ = A d main_v6 _
  congr 1
  funext a
  apply Fin.ext
  match a with
  | ⟨0, _⟩ => show win0_3.index t 0 * 1 + 1 * 0 = 0; rw [(index_3 t).1]
  | ⟨1, _⟩ => show win0_3.index t 1 * 1024 + 1 * k.val = k.val; rw [(index_3 t).2]; omega

/-- Distinct points write distinct blocks. -/
theorem index_4_inj : ∀ t t' : Fin cfg0.N, win0_4.index t = win0_4.index t' → t = t' := fun t t' h =>
  Fin.ext ((index_4 t).symm.trans ((congrFun h 0).trans (index_4 t')))

/-- Two steps write disjoint blocks. -/
theorem blocks_disjoint : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (index_4_inj t t' h)

/-- Entry `6144 t + r` of the index array is entry `r` of the body's result at point `t`. -/
theorem arr_at [∀ e, Nonempty (Elt F e)] (d : Dev nD) (t : Fin cfg0.N) (r : Fin 6144) :
    ((dats A 0 d).arrAt 4 cfg0.N : Vec F S36864 .i32) (ix1 (rowAt t r))
      = k0_pay1 (wblk A d 0 t) (wblk A d 1 t) (wblk A d 2 t) (wblk A d 3 t) (ix1 r) := by
  have h := (dats A 0 d).read_blk_arrAt_eq_flushed 4 blocks_disjoint cfg0.N t t.isLt (flush0_4 t)
  have h1 := congrFun h (ix1 r : S6144.Idx)
  rw [View.read_apply] at h1
  have e : ((cfg0.win 4).blk t).view.emb (ix1 r : S6144.Idx) = (ix1 (rowAt t r) : S36864.Idx) := by
    funext a
    apply Fin.ext
    match a with
    | ⟨0, _⟩ => show win0_4.index t 0 * 6144 + 1 * r.val = 6144 * t.val + r.val; rw [index_4 t]; omega
  rw [← bodyOut_eq, ← after_4]
  exact (congrArg ((dats A 0 d).arrAt 4 cfg0.N) e).symm.trans h1

/-- At the exact instance the entry is the first row of least score. -/
theorem arr_value [∀ e, Nonempty (Elt Ideal e)] (A : (d : Dev nD) → (b : Ref sig .tc) → Buf (Elt Ideal) ((d : Thread nD τ).loc b))
    (d : Dev nD) (x : Vec Ideal S36864x64 .f32) (c : Vec Ideal S1024x64 .f32) (xs : Vec Ideal S36864x1 .f32) (cs : Vec Ideal S1x1024 .f32)
    (hx : A d main_v0 = x) (hc : A d main_arg1 = c) (hxs : A d main_v3 = xs) (hcs : A d main_v6 = cs) (n : Fin 36864) :
    ((dats A 0 d).arrAt 4 cfg0.N : Vec Ideal S36864 .i32) (ix1 n)
      = BitVec.ofNat 32 (first fun k => score (xs (ix2 n 0)) (cs (ix2 0 k)) (∑ i : Fin 64, x (ix2 n i) * c (ix2 k i))).val := by
  obtain ⟨t, r, rfl⟩ : ∃ (t : Fin cfg0.N) (r : Fin 6144), n = rowAt t r :=
    ⟨⟨n.val / 6144, by have := n.isLt; show _ < 6; omega⟩, ⟨n.val % 6144, Nat.mod_lt _ (by decide)⟩, Fin.ext (by
      show n.val = 6144 * (n.val / 6144) + n.val % 6144; omega)⟩
  subst hx hc hxs hcs
  rw [arr_at, pay_apply]
  simp only [wblk_0, wblk_1, wblk_2, wblk_3]

end Cert.Proof

end
-- ==== Proof.Main.lean ====
/-
  The whole program's run: @main on the TensorCore, from the launch to the end, and the launch of all threads.
-/
module

public import proofs.«01_k».proof.Proof.Host

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

/-- No two staging buffers of the TensorCore call share a semaphore. -/
theorem cells_inj : Function.Injective (Pipeline.cellOf (nD := nD) (τ := τ) (Pipeline.pin (pcfgs (F := F)) adm)) := cellOf_inj

/-- The handshakes' and the pipeline's rounds at their start. -/
def u₀ : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

/-- A device's part of the pipeline's ghost state. -/
def ghost (d : Dev nD) : sProp 𝕄 :=
  iprop(Pipeline.cellsGhost (Pipeline.pin (pcfgs (F := F)) adm) (EP (F := F)) 0 d
    ∗ Pipeline.toksInit (Pipeline.pin (pcfgs (F := F)) adm) (EP (F := F)) 0 d)

omit [FloatOps F] in
/-- Nothing, many times over, is nothing. -/
theorem bigSep_nothing {I : Type} (s : Finset I) : (bigSep s fun _ => iprop(emp)) = (iprop(emp) : sProp 𝕄) := bigSep_emp_const s

variable (t : (d : Dev nD) → Buf (Elt F) (tLoc d)) (g : (d : Dev nD) → Buf (Elt F) (iLoc d)) (o : (d : Dev nD) → Buf (Elt F) (oLoc d))

/-- The ghost state at the launch, split into its parts. -/
theorem launch_ghost : (ownU (u₀ (F := F)) : sProp 𝕄)
    ⊢ |={Set.univ}=> iprop(BI.own (EH (F := F) (initOf (K (F := F)).hsCells (K (F := F)).hsToks)) ∗ (bigSep Finset.univ fun d : Dev nD => ghost (F := F) d)
        ∗ bigSep Finset.univ fun thr : Thread nD τ => bigSep Finset.univ fun q : Fin 1 => (P t g o).x q thr) := by
  unfold u₀
  iintro Hu
  ihave H := (ownU_pair (initOf (K (F := F)).hsCells (K (F := F)).hsToks) _) $$ Hu
  icases H with ⟨HH, HR⟩
  ihave H := (own_pair_emb (embR (A := UH) (B := UP × Counters)) _ (1 : Counters)) $$ HR
  icases H with ⟨HP, -⟩
  imod (Pipeline.fund_ghost (Pipeline.pin (pcfgs (F := F)) adm) (EP (F := F)) cells_inj) $$ HP with ⟨Hc, Ht⟩
  imodintro
  isplitl [HH]; · iexact HH
  isplitl [Hc Ht]
  · rw [show (bigSep Finset.univ fun d : Dev nD => ghost (F := F) d)
        = iprop((bigSep Finset.univ fun d : Dev nD => bigSep Finset.univ fun p => Pipeline.cellsGhost (Pipeline.pin (pcfgs (F := F)) adm) (EP (F := F)) p d)
          ∗ bigSep Finset.univ fun d : Dev nD => bigSep Finset.univ fun p => Pipeline.toksInit (Pipeline.pin (pcfgs (F := F)) adm) (EP (F := F)) p d) from by
      rw [← bigSep_sep']
      exact bigSep_congr fun d _ => by
        rw [bigSep_univ_of_subsingleton (0 : Fin 1), bigSep_univ_of_subsingleton (0 : Fin 1)]; rfl]
    isplitl [Hc] <;> iassumption
  rw [show (bigSep Finset.univ fun thr : Thread nD τ => bigSep Finset.univ fun q : Fin 1 => (P (F := F) t g o).x q thr) = bigSep Finset.univ fun _ => iprop(emp) from
    bigSep_congr fun _ _ => bigSep_univ_of_subsingleton (0 : Fin 1), bigSep_nothing]
  iempintro

/-! ## The TensorCore call inside @main -/

/-- The arrays of the windows at any contents are those buffers held. -/
theorem arrays_eq_held (d : Dev nD) (G : (w : Fin cfg0.W) → Buf (Elt F) ((cfg0.win w).arr.view.loc (d.tc : Thread nD τ))) (W : Valuation τ sig (Elt F))
    (hG : ∀ w, G w = W (Proc.devRef .tc (Pipeline.arrRef spec0 w))) :
    ((dats (entry m) 0 d).arrays G : sProp 𝕄) = StableHlo.held (d : Thread nD τ) (Pipeline.arrRefs spec0) W :=
  Pipeline.arrays_held pcfgs adm (pdats (entry m)) 0 launch0.toP d ((dats (entry m) 0 d).share_full fun _ => rfl) G W hG

/-- The TensorCore call's arrays are unscoped buffers. -/
theorem arrs_sub : Pipeline.arrRefs (τ := τ) spec0 ⊆ Pipeline.ucRefs τ sig :=
  Pipeline.arrRefs_sub_ucRefs spec0 winFacts0.arr_unscoped

/-- All buffers before the TensorCore call: the windows' arrays and the rest. -/
theorem held_in (d : Dev nD) : (StableHlo.held (d : Thread nD τ) (Pipeline.ucRefs τ sig) (valIn m d) : sProp 𝕄)
    = iprop((dats (entry m) 0 d).arrays ((dats (entry m) 0 d).arrAt · 0)
        ∗ StableHlo.held (d : Thread nD τ) (Pipeline.ucRefs τ sig \ Pipeline.arrRefs spec0) (valIn m d)) :=
  (StableHlo.held_sub_split _ arrs_sub _).trans
    (congrArg (fun X => iprop(X ∗ StableHlo.held (d : Thread nD τ) (Pipeline.ucRefs τ sig \ Pipeline.arrRefs spec0) (valIn m d)))
      (arrays_eq_held m d _ (valIn m d) fun w => dats_A (entry m) d w).symm)

/-- An array that is not the indices' is after the call as before. -/
theorem arr_kept (d : Dev nD) (w : Fin cfg0.W) (hw : (cfg0.win w).isOut = false) (hne : Pipeline.arrRef spec0 w ≠ main_v8) :
    (dats (entry m) 0 d).arrAt w cfg0.N = valMid m d (Proc.devRef .tc (Pipeline.arrRef spec0 w)) := by
  rw [(dats (entry m) 0 d).arrAt_in w hw, dats_A, valMid_ne m d _ hne]

/-- The windows' arrays after the call. -/
theorem arr_mid (d : Dev nD) : ∀ w : Fin cfg0.W,
    (dats (entry m) 0 d).arrAt w cfg0.N = valMid m d (Proc.devRef .tc (Pipeline.arrRef spec0 w))
  | ⟨0, _⟩ => arr_kept m d 0 rfl (by decide)
  | ⟨1, _⟩ => arr_kept m d 1 rfl (by decide)
  | ⟨2, _⟩ => arr_kept m d 2 rfl (by decide)
  | ⟨3, _⟩ => arr_kept m d 3 rfl (by decide)
  | ⟨4, _⟩ => (valMid_v8 m d).symm

/-- The other buffers are after the call as before. -/
theorem rest_mid (d : Dev nD) :
    (StableHlo.held (d : Thread nD τ) (Pipeline.ucRefs τ sig \ Pipeline.arrRefs spec0) (valMid m d) : sProp 𝕄)
      = StableHlo.held (d : Thread nD τ) (Pipeline.ucRefs τ sig \ Pipeline.arrRefs spec0) (valIn m d) :=
  StableHlo.held_congr _ fun b hb => Function.update_of_ne (fun h => (Finset.mem_sdiff.mp hb).2 (by
    rw [h]; exact Finset.mem_map.mpr ⟨main_v8, Finset.mem_image.mpr ⟨4, Finset.mem_univ _, rfl⟩, rfl⟩)) _ _

/-- All buffers after it. -/
theorem held_mid (d : Dev nD) : (StableHlo.held (d : Thread nD τ) (Pipeline.ucRefs τ sig) (valMid m d) : sProp 𝕄)
    = iprop((dats (entry m) 0 d).arrays ((dats (entry m) 0 d).arrAt · cfg0.N)
        ∗ StableHlo.held (d : Thread nD τ) (Pipeline.ucRefs τ sig \ Pipeline.arrRefs spec0) (valIn m d)) :=
  (StableHlo.held_sub_split _ arrs_sub _).trans
    ((congrArg (fun X => iprop(StableHlo.held (d : Thread nD τ) (Pipeline.arrRefs spec0) (valMid m d) ∗ X)) (rest_mid m d)).trans
      (congrArg (fun X => iprop(X ∗ StableHlo.held (d : Thread nD τ) (Pipeline.ucRefs τ sig \ Pipeline.arrRefs spec0) (valIn m d)))
        (arrays_eq_held m d _ (valMid m d) (arr_mid m d)).symm))

/-- The TensorCore call, under the debt to the SparseCores, with the ghost state of the pipeline. -/
theorem tc_call [∀ e, Nonempty (Elt F e)] (d : Dev nD) (Q : PUnit → sProp 𝕄) :
    iprop(boundary (d : Thread nD τ) ∗ StableHlo.held (d : Thread nD τ) (Pipeline.ucRefs τ sig) (valIn m d) ∗ debt d
        ∗ levAts (K (F := F)).L (K (F := F)).lev ∗ ghost d
        ∗ (iprop(boundary (d : Thread nD τ) ∗ StableHlo.held (d : Thread nD τ) (Pipeline.ucRefs τ sig) (valMid m d) ∗ debt d) -∗ Q ⟨⟩))
      ⊢ wp frame (wpE ((K (F := F)).defs (D (F := F))) 𝒱 (d : Thread nD τ) none) Set.univ
          (SparseCore.liftProg (Prog.lift (.customCall (Pipeline.entry 0) ()))) Q := by
  have h := Pipeline.RegionSeg.wp pcfgs adm (pdats (entry m)) none cells_inj (EP (F := F)) defs₀ 𝒱₀
    (K (F := F)).L (K (F := F)).lev (region (entry m)) d none (fun _ h => nomatch h) (fun x => Prog.ret x) Q
  refine BI.Entails.trans ?_ (h.trans ((K (F := F)).wp_liftProg (D (F := F)) 𝒱 (d : Thread nD τ) Set.univ none
    (Prog.op (.customCall (Pipeline.entry 0) ()) fun x => Prog.ret x) Q))
  rw [held_in, held_mid]
  unfold ghost
  simp only [wp_ret]
  change _ ⊢ iprop((iprop(boundary (d : Thread nD τ) ∗ ((dats (entry m) 0 d).arrays ((dats (entry m) 0 d).arrAt · cfg0.N) ∗ debt d)) -∗ |={Set.univ}=> Q ⟨⟩)
    ∗ boundary (d : Thread nD τ) ∗ ((dats (entry m) 0 d).arrays ((dats (entry m) 0 d).arrAt · 0) ∗ debt d)
    ∗ levAts (K (F := F)).L (K (F := F)).lev
    ∗ Pipeline.cellsGhost (Pipeline.pin (pcfgs (F := F)) adm) (EP (F := F)) 0 d
    ∗ Pipeline.toksInit (Pipeline.pin (pcfgs (F := F)) adm) (EP (F := F)) 0 d)
  iintro ⟨Hb, ⟨Ha, Hr⟩, Hd, Hl, ⟨Hc, Ht⟩, Hk⟩
  isplitl [Hk Hr]
  · iintro ⟨Hb, Ha, Hd⟩
    imodintro
    iapply Hk
    isplitl [Hb]; · iexact Hb
    isplitl [Ha Hr]
    · isplitl [Ha] <;> iassumption
    iexact Hd
  isplitl [Hb]; · iexact Hb
  isplitl [Ha Hd]
  · isplitl [Ha] <;> iassumption
  isplitl [Hl]; · iexact Hl
  isplitl [Hc] <;> iassumption

end Cert.Proof

end
-- ==== Proof.Run.lean ====
/-
  The whole program's run, for any contents of the launch memory whose TensorCore call computes indices that name rows of
  the codebook: every buffer ends at `valEnd`.
-/
module

public import proofs.«01_k».proof.Proof.Main

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The SparseCore call inside @main -/

/-- The three arrays of the SparseCore call. -/
abbrev callRefs : Finset (DevRef τ sig) :=
  {Proc.devRef .tc main_v8, Proc.devRef .tc main_v7, Proc.devRef .tc main_v9}

/-- The SparseCore call's arrays are unscoped buffers. -/
theorem callRefs_sub : callRefs ⊆ Pipeline.ucRefs τ sig := by decide

/-- Holding the SparseCore call's arrays is holding each of them. -/
theorem held_callRefs (d : Dev nD) (W : Valuation τ sig (Elt F)) :
    (StableHlo.held (d : Thread nD τ) callRefs W : sProp 𝕄)
      = iprop((iLoc d ↦{fullShare} W (Proc.devRef .tc main_v8)) ∗ (tLoc d ↦{fullShare} W (Proc.devRef .tc main_v7))
          ∗ oLoc d ↦{fullShare} W (Proc.devRef .tc main_v9)) := by
  unfold StableHlo.held
  rw [SparseCore.bigSep_insert' (by decide), SparseCore.bigSep_insert' (by decide), bigSep_singleton]

/-- What the call is started with. -/
theorem starts_eq (d : Dev nD) :
    (bigSep Finset.univ fun c : Fin ((K (F := F)).nCore 0) => (P (tabOf m) (idxOf m) (oldOf m)).st 0 d c)
      = (StableHlo.held (d : Thread nD τ) callRefs (valMid m d) : sProp 𝕄) := by
  rw [held_callRefs, valMid_v8, valMid_ne m d main_v7 (by decide), valMid_ne m d main_v9 (by decide)]
  exact cores_eq (tabOf m) (idxOf m) (oldOf m) d

/-- What it leaves. -/
theorem dones_eq (d : Dev nD) :
    (bigSep Finset.univ fun c : Fin ((K (F := F)).nCore 0) => (P (tabOf m) (idxOf m) (oldOf m)).dn 0 d c)
      = (StableHlo.held (d : Thread nD τ) callRefs (valCall m d) : sProp 𝕄) := by
  rw [held_callRefs, valCall_v9, valCall_ne m d main_v8 (by decide), valCall_ne m d main_v7 (by decide), valMid_v8,
    valMid_ne m d main_v7 (by decide)]
  exact cores_eq (tabOf m) (idxOf m) (done (tabOf m) (idxOf m)) d

/-- The call changes no other buffer. -/
theorem rest_call (d : Dev nD) :
    (StableHlo.held (d : Thread nD τ) (Pipeline.ucRefs τ sig \ callRefs) (valCall m d) : sProp 𝕄)
      = StableHlo.held (d : Thread nD τ) (Pipeline.ucRefs τ sig \ callRefs) (valMid m d) :=
  StableHlo.held_congr _ fun b hb => Function.update_of_ne (fun h => (Finset.mem_sdiff.mp hb).2 (by
    rw [h]; exact Finset.mem_insert_of_mem (Finset.mem_insert_of_mem (Finset.mem_singleton_self _)))) _ _

/-! ## @main -/

/-- The TensorCore's state before the call is its debt and the rest. -/
theorem tcSt_debt (d : Dev nD) : ∃ R : sProp 𝕄, (K (F := F)).tcSt (EH (F := F)) d 0 = iprop(debt d ∗ R) := ⟨_, rfl⟩

/-- What @main ends with. -/
abbrev FIN (d : Dev nD) : sProp 𝕄 := StableHlo.held (d : Thread nD τ) (Pipeline.ucRefs τ sig) (valEnd m d)

set_option maxHeartbeats 1000000 in
/-- @main on device `d`'s TensorCore. -/
theorem hmain [∀ e, Nonempty (Elt F e)] (κ : GSem nD τ sig → ℕ) (d : Dev nD) :
    iprop((K (F := F)).ctx (EH (F := F)) (P (tabOf m) (idxOf m) (oldOf m)) κ ∗ (K (F := F)).tcSt (EH (F := F)) d 0 ∗ (K (F := F)).tcRes m ρ d ∗ ghost (F := F) d)
      ⊢ wp frame (wpE ((K (F := F)).defs (D (F := F))) 𝒱 (SparseCore.T d) none) Set.univ (main d)
          fun _ => iprop((K (F := F)).tcSt (EH (F := F)) d 1 ∗ FIN m d ∗ (K (F := F)).tcEnd d) := by
  obtain ⟨R, hR⟩ := tcSt_debt (F := F) d
  unfold SparseCore.Cfg.tcRes SparseCore.Cfg.tcEnd
  rw [show (unscopedBufs d (fun b => m ((SparseCore.T d).loc b)) : sProp 𝕄)
      = StableHlo.held (d : Thread nD τ) (Pipeline.ucRefs τ sig) (fun b => m (d, b)) from Pipeline.unscopedBufs_held d fun b => m (d, b), main_eq]
  iintro ⟨#Hctx, Hst, ⟨Hb, Hm, Hts, -⟩, Hg⟩
  iapply (StableHlo.wp_seq 𝒱 none Set.univ d (Pipeline.ucRefs τ sig) _ opsIn opsIn_sub opsIn_fresh (fun b => m (d, b))) $$ [Hb Hm]
  · isplitl [Hb] <;> iassumption
  iintro ⟨Hb, Hm⟩
  rw [wp_bind]
  ihave Hst' := (Entails.of_eq hR) $$ Hst
  icases Hst' with ⟨Hd, HR⟩
  ihave #Hlev := (SparseCore.Cfg.ctx_levAts (K := K (F := F)) κ) $$ Hctx
  iapply (tc_call m d _)
  isplitl [Hb]; · iexact Hb
  isplitl [Hm]; · iexact Hm
  isplitl [Hd]; · iexact Hd
  isplitr; · iexact Hlev
  isplitl [Hg]; · iexact Hg
  iintro ⟨Hb, Hm, Hd⟩
  rw [wp_bind]
  ihave Hm' := (Entails.of_eq (StableHlo.held_sub_split _ callRefs_sub (valMid m d))) $$ Hm
  icases Hm' with ⟨Hcall, Hrest⟩
  iapply ((K (F := F)).wp_run (D (F := F)) 𝒱 (EH := EH (F := F)) (P := P (tabOf m) (idxOf m) (oldOf m)) κ d 0)
  isplitr; · iexact Hctx
  isplitl [Hd HR]
  · iapply (Entails.of_eq hR.symm)
    isplitl [Hd] <;> iassumption
  isplitl [Hcall]
  · iapply (Entails.of_eq (starts_eq m d).symm); iexact Hcall
  iintro ⟨Hst, Hdn⟩
  ihave Hcall := (Entails.of_eq (dones_eq m d)) $$ Hdn
  ihave Hrest' := (Entails.of_eq (rest_call m d).symm) $$ Hrest
  ihave Hm := (Entails.of_eq (StableHlo.held_sub_split _ callRefs_sub (valCall m d)).symm) $$ [Hcall Hrest']
  · isplitl [Hcall] <;> iassumption
  iapply (StableHlo.wp_seq 𝒱 none Set.univ d (Pipeline.ucRefs τ sig) _ opsOut opsOut_sub opsOut_fresh (valCall m d)) $$ [Hb Hm]
  · isplitl [Hb] <;> iassumption
  iintro ⟨Hb, Hm⟩
  rw [wp_pure]
  imodintro
  isplitl [Hst]; · iexact Hst
  isplitl [Hm]; · iexact Hm
  isplitl [Hb] <;> iassumption

/-! ## The end and the launch -/

/-- The four arrays that a claim names. -/
def fq (d : Dev nD) (s : Phys nD τ sig (Elt F)) : Prop :=
  ∀ b ∈ Pipeline.ucRefs τ sig, s.mem.mem (d, b) = valEnd m d b

/-- What the TensorCore holds at the end gives the contents of its buffers. -/
theorem hfin (d : Dev nD) (s : Phys nD τ sig (Elt F)) : iprop(FIN m d ∗ SI s) ⊢ (⌜fq m d s⌝ : sProp 𝕄) := by
  have one : ∀ b ∈ Pipeline.ucRefs τ sig, iprop(FIN m d ∗ SI s) ⊢ (⌜s.mem.mem (d, b) = valEnd m d b⌝ : sProp 𝕄) := fun b hb => by
    have hsplit : FIN m d = iprop(((d, b) ↦{fullShare} valEnd m d b)
        ∗ StableHlo.held (d : Thread nD τ) ((Pipeline.ucRefs τ sig).erase b) (valEnd m d)) := bigSep_erase hb
    rw [hsplit]
    iintro ⟨⟨H, -⟩, HSI⟩
    ihave H := (SI_pointsTo_agree (st := s) (ℓ := (d, b)) (I := Finset.univ) (q := fullShare) (f := valEnd m d b)) $$ [HSI H]
    · isplitl [HSI] <;> iassumption
    icases H with %h
    ipureintro; exact funext fun i => h i (Finset.mem_univ i)
  have all : iprop(FIN m d ∗ SI s) ⊢ (⌜∀ x : {b // b ∈ Pipeline.ucRefs τ sig}, s.mem.mem (d, x.1) = valEnd m d x.1⌝ : sProp 𝕄) :=
    (Laws.forall_intro fun x : {b // b ∈ Pipeline.ucRefs τ sig} => one x.1 x.2).trans Laws.pure_forall.2
  exact all.trans (Laws.pure_mono fun h b hb => h ⟨b, hb⟩)

/-- Every execution from memory `m` ends with the buffers at `valEnd` and every semaphore at zero. -/
theorem run_main [∀ e, Nonempty (Elt F e)] (hg : ∀ d x, (idxOf m d x : BitVec 32).toNat < 1024) :
    θ_run (defs (F := F)) (threads (F := F)) ⟨m, fun _ => 0, ρ⟩
      (fun r => (∀ d : Dev nD, ∀ b ∈ Pipeline.ucRefs τ sig, r.2.mem (d, b) = valEnd m d b) ∧ r.2.sem = fun _ => 0) :=
  SparseCore.Cfg.θ_run_sc_quiescent (K := K (F := F)) (D := D (F := F)) (𝒱 := 𝒱) (EH := EH (F := F)) (P := P (tabOf m) (idxOf m) (oldOf m)) (A := ∅) launchFacts v₀
    (fun q hq => match q with | 0 => nomatch hq)
    (fun q _ => match q with | 0 => tileObl (tabOf m) (idxOf m) (oldOf m) hg)
    (fun q _ => match q with | 0 => SparseCore.Cfg.VecSplit.of_plain (vecSplit (tabOf m) (idxOf m) (oldOf m)))
    m ρ main (fun d => ghost d) (FIN m) (u₀ (F := F)) (sep_elim_left.trans (launch_ghost (tabOf m) (idxOf m) (oldOf m))) (hmain m ρ) (fq m) (hfin m)
    _ (fun _ h hz => ⟨h, hz⟩)

end Cert.Proof

end
-- ==== Proof.KernelValue.lean ====
module

public import proofs.«01_k».proof.Proof.HostValue
public import proofs.«01_k».proof.Proof.IndexArray
public import proofs.«01_k».proof.Proof.Run

/-! # What the kernel computes over the extended reals

The index array the TensorCore call leaves, read through the arrays that the host prepares for it; that it names rows of
the codebook only, so that the gather on the SparseCores stays inside its table; and the whole run. -/

@[expose] public section

set_option maxRecDepth 16384

noncomputable section

namespace Cert.Proof

open Cert.KernelIdeal Cert.KernelIdeal.Gen
open Idealize.ShloMosaic Idealize.ShloMosaic.TcCoe

/-- Over the extended reals every element type has a value. -/
instance idealInhabited (e : EltTy) : Nonempty (Elt Ideal e) := by
  cases e
  case fp8e4m3 => exact ⟨(0 : EReal)⟩
  case fp8e5m2 => exact ⟨(0 : EReal)⟩
  case bf16 => exact ⟨(0 : EReal)⟩
  case f16 => exact ⟨(0 : EReal)⟩
  case f32 => exact ⟨(0 : EReal)⟩
  case i1 => exact ⟨(0 : BitVec 1)⟩
  case i4 => exact ⟨(0 : BitVec 4)⟩
  case i8 => exact ⟨(0 : BitVec 8)⟩
  case i16 => exact ⟨(0 : BitVec 16)⟩
  case i32 => exact ⟨(0 : BitVec 32)⟩
  case i64 => exact ⟨(0 : BitVec 64)⟩

/-- The kernel's distance between row `n` of `x` and row `k` of `c`. -/
def scoreAt (x : Vec Ideal S36864x64 .f32) (c : Vec Ideal S1024x64 .f32) (n : Fin 36864) (k : Fin 1024) : EReal :=
  score (∑ i : Fin 64, x (ix2 n i) * x (ix2 n i)) (∑ i : Fin 64, c (ix2 k i) * c (ix2 k i)) (∑ i : Fin 64, x (ix2 n i) * c (ix2 k i))

variable (m : (ℓ : Loc nD τ sig) → Buf (Elt Ideal) ℓ)

/-- The index of row `n` is the first position of the row's least distance. -/
theorem idxOf_apply (d : Dev nD) (n : Fin 36864) :
    (idxOf m d : Vec Ideal S36864 .i32) (ix1 n)
      = BitVec.ofNat 32 (first (scoreAt (rowsOf (m (d, Proc.devRef .tc main_arg0))) (m (d, Proc.devRef .tc main_arg1)) n)).val := by
  refine (arr_value (entry m) d _ _ _ _ (valIn_v0 m d) (valIn_arg1 m d) (valIn_v3 m d) (valIn_v6 m d) n).trans ?_
  have e : (fun k => score (sqCol (rowsOf (m (d, Proc.devRef .tc main_arg0))) (ix2 n 0))
        (sqLine (m (d, Proc.devRef .tc main_arg1)) (ix2 0 k))
        (∑ i : Fin 64, rowsOf (m (d, Proc.devRef .tc main_arg0)) (ix2 n i)
          * (m (d, Proc.devRef .tc main_arg1) : Vec Ideal S1024x64 .f32) (ix2 k i)))
      = scoreAt (rowsOf (m (d, Proc.devRef .tc main_arg0))) (m (d, Proc.devRef .tc main_arg1)) n :=
    funext fun k => by rw [sqCol_apply, sqLine_apply, scoreAt]
  exact congrArg (fun s => BitVec.ofNat 32 (first s).val) e

/-- Every index is that of a codebook row. -/
theorem idxOf_lt (d : Dev nD) (x : S36864.Idx) : ((idxOf m d : Vec Ideal S36864 .i32) x : BitVec 32).toNat < 1024 := by
  obtain ⟨n, rfl⟩ : ∃ n : Fin 36864, x = ix1 n := ⟨x 0, eq_ix1 x⟩
  rw [idxOf_apply, BitVec.toNat_ofNat]
  exact lt_of_le_of_lt (Nat.mod_le _ _) (Fin.is_lt _)

/-- The kernel over the extended reals, from any memory: it terminates, its buffers end at `valEnd`, its counters at zero. -/
theorem run_ideal (ρ : Dev nD → PrngReg) :
    θ_run (defs (F := Ideal)) (threads (F := Ideal)) ⟨m, fun _ => 0, ρ⟩
      (fun r => (∀ d, ∀ b ∈ Pipeline.ucRefs τ sig, r.2.mem (d, b) = valEnd m d b) ∧ r.2.sem = fun _ => 0) :=
  run_main m ρ (idxOf_lt m)

end Cert.Proof

end
-- ==== Proof.Root.lean ====
module

public import proofs.«01_k».proof.Proof.IndexValue
public import proofs.«01_k».proof.Proof.Gen.Pre_finite
public import Idealize.ShloMosaic.Lib.ReduceAll

/-! # Real inputs

On real numbers the kernel's distance, the squared distance times its reciprocal root, is the root of the squared distance.
The precondition says of every input element that it is real. -/

@[expose] public section

set_option maxRecDepth 16384

noncomputable section

namespace Cert.Proof

open Idealize.ShloMosaic

/-- An extended real that is a real number. -/
def IsReal (x : EReal) : Prop := ∃ r : ℝ, x = (r : EReal)

/-- A product of real numbers is real. -/
theorem IsReal.mul {x y : EReal} : IsReal x → IsReal y → IsReal (x * y) := by
  rintro ⟨r, rfl⟩ ⟨s, rfl⟩
  exact ⟨r * s, (EReal.coe_mul r s).symm⟩

/-- A sum of two real numbers is real. -/
theorem IsReal.add {x y : EReal} : IsReal x → IsReal y → IsReal (x + y) := by
  rintro ⟨r, rfl⟩ ⟨s, rfl⟩
  exact ⟨r + s, (EReal.coe_add r s).symm⟩

/-- A finite sum of real numbers is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The squared distance of real arguments is a real number that is not negative. -/
theorem sqDist_real {a b p : EReal} : IsReal a → IsReal b → IsReal p → ∃ r : ℝ, 0 ≤ r ∧ sqDist a b p = (r : EReal) := by
  rintro ⟨r, rfl⟩ ⟨s, rfl⟩ ⟨t, rfl⟩
  refine ⟨max (r + s - 2 * t) 0, le_max_right _ _, ?_⟩
  have h2 : (2 : EReal) = ((2 : ℝ) : EReal) := rfl
  rw [sqDist, h2, ← EReal.coe_mul, ← EReal.coe_add, ← EReal.coe_sub, ← EReal.coe_zero]
  exact (EReal.coe_strictMono.monotone.map_max).symm

/-- A real number that is not negative, times its reciprocal root, is its root. -/
theorem score_eq_sqrt {a b p : EReal} (ha : IsReal a) (hb : IsReal b) (hp : IsReal p) : score a b p = Ideal.sqrt (sqDist a b p) := by
  obtain ⟨r, hr, e⟩ := sqDist_real ha hb hp
  have hs : Ideal.sqrt (r : EReal) = (Real.sqrt r : EReal) := if_neg (not_lt.mpr hr)
  rw [score, e, hs]
  by_cases h : r = 0
  · subst h
    simp
  · have h1 : ¬(r : EReal) = 0 := fun h' => h (EReal.coe_eq_zero.mp h')
    have hq : Ideal.rsqrt (r : EReal) = ((Real.sqrt r)⁻¹ : ℝ) := (if_neg (not_lt.mpr hr)).trans (if_neg h)
    rw [if_neg h1, hq, ← EReal.coe_mul, ← div_eq_mul_inv, Real.div_sqrt]

/-- An extended real of absolute value below infinity is a real number. -/
theorem real_of_below {x : EReal} (h : BitVec.ofBool (decide (max x (-x) < (⊤ : EReal))) = 1#1) : IsReal x := by
  have h' : max x (-x) < ⊤ := by
    by_contra hn
    rw [decide_eq_false hn] at h
    exact absurd h (by decide)
  induction x with
  | bot => exact absurd h' (by simp)
  | top => exact absurd h' (by simp)
  | coe r => exact ⟨r, rfl⟩

open Cert.Pre_finite Cert.Pre_finite.Gen in
/-- What the precondition says. -/
theorem reals_of_finite (x : FVec Ideal S64x576x64 .f32) (c : FVec Ideal S1024x64 .f32)
    (h : (Cert.Pre_finite.fn (F := Ideal) x c).1 = (fun _ => 1#1) ∧ (Cert.Pre_finite.fn (F := Ideal) x c).2 = (fun _ => 1#1)) :
    (∀ i, IsReal (x i)) ∧ ∀ i, IsReal (c i) := by
  unfold Cert.Pre_finite.fn at h
  dsimp only at h
  have single : Subsingleton S_.Idx := ⟨fun a b => (ix0_eta a).symm.trans (ix0_eta b)⟩
  refine ⟨fun i => ?_, fun i => ?_⟩
  · have := Host.reduce_andi_all _ _ _ _ _ (congrFun h.1 ix0) i
    simp only [pointwise, top_f32] at this
    exact real_of_below this
  · have := Host.reduce_andi_all _ _ _ _ _ (congrFun h.2 ix0) i
    simp only [pointwise, top_f32] at this
    exact real_of_below this

end Cert.Proof

end
-- ==== Proof.RefRun.lean ====
module

public import proofs.«01_k».proof.Proof.Gen.ReferenceIdeal
public import Idealize.ShloMosaic.Lib.StableHlo.Run
public import Idealize.ShloMosaic.Lib.Pipeline.Frame

/-! # The reference's run

The reference is one straight line of array operations: the distances, the pick of the least, the codebook rows taken.
It terminates from every memory, and each buffer ends at what the operations, in order, leave there. -/

@[expose] public section

set_option maxRecDepth 16384

noncomputable section

namespace Cert.Proof.Ref

open Cert.ReferenceIdeal Cert.ReferenceIdeal.Gen
open Idealize.ShloMosaic Idealize.ShloMosaic.TcCoe
open Idealize.SL.Sem

variable {F : FTy → Type} [FloatOps F]

/-- The distances: from the input and the codebook to the square roots of the cut-off squared distances. -/
abbrev scoreOps : List (HloOp τ sig (Elt F)) :=
  [ StableHlo.reshape main_arg0 main_v0 (rfl : (.f32 : EltTy) = .f32) shapeCasts_S64x576x64_S36864x64,
    StableHlo.binary main_v0 main_v0 main_v1 (mulf : (⟨S36864x64, .f32⟩ : BufTy).Contents (Elt F) → (⟨S36864x64, .f32⟩ : BufTy).Contents (Elt F) → (⟨S36864x64, .f32⟩ : BufTy).Contents (Elt F)),
    StableHlo.nullary main_cst (constant S_ .f32 0x00000000#32),
    StableHlo.binary main_v1 main_cst main_v2 ((fun x v => Host.reduceAdd x v reducesTo_S36864x64_S36864_d1 h_S_) : (⟨S36864x64, .f32⟩ : BufTy).Contents (Elt F) → (⟨S_, .f32⟩ : BufTy).Contents (Elt F) → (⟨S36864, .f32⟩ : BufTy).Contents (Elt F)),
    StableHlo.unary main_v2 main_v3 (broadcastInDim S36864x1 ![0] bcast_S36864_S36864x1_0 : (⟨S36864, .f32⟩ : BufTy).Contents (Elt F) → (⟨S36864x1, .f32⟩ : BufTy).Contents (Elt F)),
    StableHlo.binary main_arg1 main_arg1 main_v4 (mulf : (⟨S1024x64, .f32⟩ : BufTy).Contents (Elt F) → (⟨S1024x64, .f32⟩ : BufTy).Contents (Elt F) → (⟨S1024x64, .f32⟩ : BufTy).Contents (Elt F)),
    StableHlo.nullary main_cst_0 (constant S_ .f32 0x00000000#32),
    StableHlo.binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_v5 main_v6 (broadcastInDim S1x1024 ![1] bcast_S1024_S1x1024_1 : (⟨S1024, .f32⟩ : BufTy).Contents (Elt F) → (⟨S1x1024, .f32⟩ : BufTy).Contents (Elt F)),
    StableHlo.unary main_v3 main_v7 (broadcastInDim S36864x1024 ![0, 1] bcast_S36864x1_S36864x1024_0_1 : (⟨S36864x1, .f32⟩ : BufTy).Contents (Elt F) → (⟨S36864x1024, .f32⟩ : BufTy).Contents (Elt F)),
    StableHlo.unary main_v6 main_v8 (broadcastInDim S36864x1024 ![0, 1] bcast_S1x1024_S36864x1024_0_1 : (⟨S1x1024, .f32⟩ : BufTy).Contents (Elt F) → (⟨S36864x1024, .f32⟩ : BufTy).Contents (Elt F)),
    StableHlo.binary main_v7 main_v8 main_v9 (addf : (⟨S36864x1024, .f32⟩ : BufTy).Contents (Elt F) → (⟨S36864x1024, .f32⟩ : BufTy).Contents (Elt F) → (⟨S36864x1024, .f32⟩ : BufTy).Contents (Elt F)),
    StableHlo.unary main_arg1 main_v10 ((transpose S64x1024 [1, 0] · transposes_S1024x64_S64x1024_1_0) : (⟨S1024x64, .f32⟩ : BufTy).Contents (Elt F) → (⟨S64x1024, .f32⟩ : BufTy).Contents (Elt F)),
    StableHlo.binary main_v0 main_v10 main_v11 ((fun l r => Host.dotGeneral dot_S36864x64_S64x1024_S36864x1024_1_0_0_1_n_n none l r) : (⟨S36864x64, .f32⟩ : BufTy).Contents (Elt F) → (⟨S64x1024, .f32⟩ : BufTy).Contents (Elt F) → (⟨S36864x1024, .f32⟩ : BufTy).Contents (Elt F)),
    StableHlo.nullary main_cst_1 (constant S_ .f32 0x40000000#32),
    StableHlo.unary main_cst_1 main_v12 (broadcastInDim S36864x1024 ![] bcast_S_S36864x1024 : (⟨S_, .f32⟩ : BufTy).Contents (Elt F) → (⟨S36864x1024, .f32⟩ : BufTy).Contents (Elt F)),
    StableHlo.binary main_v12 main_v11 main_v13 (mulf : (⟨S36864x1024, .f32⟩ : BufTy).Contents (Elt F) → (⟨S36864x1024, .f32⟩ : BufTy).Contents (Elt F) → (⟨S36864x1024, .f32⟩ : BufTy).Contents (Elt F)),
    StableHlo.binary main_v9 main_v13 main_v14 (subf : (⟨S36864x1024, .f32⟩ : BufTy).Contents (Elt F) → (⟨S36864x1024, .f32⟩ : BufTy).Contents (Elt F) → (⟨S36864x1024, .f32⟩ : BufTy).Contents (Elt F)),
    StableHlo.nullary main_cst_2 (constant S_ .f32 0x00000000#32),
    StableHlo.unary main_cst_2 main_v15 (broadcastInDim S36864x1024 ![] bcast_S_S36864x1024 : (⟨S_, .f32⟩ : BufTy).Contents (Elt F) → (⟨S36864x1024, .f32⟩ : BufTy).Contents (Elt F)),
    StableHlo.binary main_v14 main_v15 main_v16 (maximumf : (⟨S36864x1024, .f32⟩ : BufTy).Contents (Elt F) → (⟨S36864x1024, .f32⟩ : BufTy).Contents (Elt F) → (⟨S36864x1024, .f32⟩ : BufTy).Contents (Elt F)),
    StableHlo.unary main_v16 main_v17 (Host.sqrt : (⟨S36864x1024, .f32⟩ : BufTy).Contents (Elt F) → (⟨S36864x1024, .f32⟩ : BufTy).Contents (Elt F)) ]

/-- The position of the least distance of each row. -/
abbrev pickOps : List (HloOp τ sig (Elt F)) :=
  [ StableHlo.TRef.nullary main_call0.v0 (iotaInDim S36864x1024 32 1),
    StableHlo.TRef.nullary main_call0.cst (constant S_ .f32 0x7F800000#32),
    StableHlo.TRef.nullary main_call0.c (constantI S_ 32 0#32),
    StableHlo.TRef.quaternary (.of main_v17 : StableHlo.TRef sig ⟨S36864x1024, .f32⟩) main_call0.v0 main_call0.cst main_call0.c main_call0.v1_0 (fun x y u v j => (Host.argReduce reducer_argmin_f32_i32 x y u v reducesTo_S36864x1024_S36864_d1 h_S_ j).1),
    StableHlo.TRef.quaternary (.of main_v17 : StableHlo.TRef sig ⟨S36864x1024, .f32⟩) main_call0.v0 main_call0.cst main_call0.c main_call0.v1_1 (fun x y u v j => (Host.argReduce reducer_argmin_f32_i32 x y u v reducesTo_S36864x1024_S36864_d1 h_S_ j).2) ]

/-- The codebook rows at the positions, and the two results in the shape of the batch. -/
abbrev takeOps : List (HloOp τ sig (Elt F)) :=
  [ StableHlo.TRef.nullary main_call1.c (constantI S_ 32 0#32),
    StableHlo.TRef.unary main_call1.c main_call1.v0 (broadcastInDim S36864 ![] bcast_S_S36864),
    StableHlo.TRef.binary (.of main_v18 : StableHlo.TRef sig ⟨S36864, .i32⟩) main_call1.v0 main_call1.v1 (cmpi .slt),
    StableHlo.TRef.nullary main_call1.c_0 (constantI S_ 32 1024#32),
    StableHlo.TRef.unary main_call1.c_0 main_call1.v2 (broadcastInDim S36864 ![] bcast_S_S36864),
    StableHlo.TRef.binary (.of main_v18 : StableHlo.TRef sig ⟨S36864, .i32⟩) main_call1.v2 main_call1.v3 addi,
    StableHlo.TRef.ternary main_call1.v1 main_call1.v3 (.of main_v18 : StableHlo.TRef sig ⟨S36864, .i32⟩) main_call1.call0.v0 select,
    StableHlo.TRef.unary main_call1.call0.v0 main_call1.v5 (broadcastInDim S36864x1 ![0] bcast_S36864_S36864x1_0),
    StableHlo.TRef.nullary main_call1.c_1 (constantI S1 32 1023#32),
    StableHlo.TRef.nullary main_call1.c_2 (constantI S_ 32 0#32),
    StableHlo.TRef.unary main_call1.c_2 main_call1.v6 (broadcastInDim S36864x1 ![] bcast_S_S36864x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S36864x1 ![0, 1] bcast_S1x1_S36864x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S36864x1_S36864_d1 h_S_),
    StableHlo.TRef.binary (.of main_arg1 : StableHlo.TRef sig ⟨S1024x64, .f32⟩) main_call1.v5 main_call1.v13 (fun x i => Host.gather gather_S1024x64_S36864x1_S36864x64_1_0_n_n_0_1_164 x i),
    StableHlo.TRef.unary main_call1.v12 main_call1.v14 (broadcastInDim S36864x64 ![0] bcast_S36864_S36864x64_0),
    StableHlo.TRef.nullary main_call1.cst (constant S_ .f32 0x7FC00000#32),
    StableHlo.TRef.unary main_call1.cst main_call1.v15 (broadcastInDim S36864x64 ![] bcast_S_S36864x64),
    StableHlo.TRef.ternary main_call1.v14 main_call1.v13 main_call1.v15 main_call1.v16 select,
    StableHlo.reshape main_v19 main_v20 (rfl : (.f32 : EltTy) = .f32) shapeCasts_S36864x64_S64x576x64,
    StableHlo.reshape main_v18 main_v21 (rfl : (.i32 : EltTy) = .i32) shapeCasts_S36864_S64x576 ]

/-- The reference is its three parts in order. -/
theorem main_eq (d : Dev nD) : main (F := F) d = StableHlo.seq (scoreOps ++ (pickOps ++ takeOps)) := by
  simp only [main, fn_argmin.body, fn_take.body, fn_where.body, StableHlo.seq, bind_assoc, pure_bind, List.cons_append, List.nil_append]

/-- The reference scopes no buffer. -/
theorem no_scoped_refs : (Finset.univ.filter fun b : Ref sig .tc => b.isScoped) = ∅ := by decide
/-- The reference scopes no semaphore. -/
theorem no_scoped_sems : (Finset.univ.filter fun sm : SemLoc sig => sm.isScoped .tc) = ∅ := by decide

/-- The distances' operations touch the TensorCore's buffers only. -/
theorem scoreOps_sub : ∀ op ∈ (scoreOps : List (HloOp τ sig (Elt F))), op.bufs ⊆ StableHlo.tcRefs τ sig :=
  List.forall_iff_forall_mem.mp (show (scoreOps : List (HloOp τ sig (Elt F))).Forall fun op => op.bufs ⊆ StableHlo.tcRefs τ sig from
    ⟨StableHlo.reshape_bufs_sub .., StableHlo.binary_bufs_sub .., StableHlo.nullary_bufs_sub ..,
      StableHlo.binary_bufs_sub .., StableHlo.unary_bufs_sub .., StableHlo.binary_bufs_sub ..,
      StableHlo.nullary_bufs_sub .., StableHlo.binary_bufs_sub .., StableHlo.unary_bufs_sub ..,
      StableHlo.unary_bufs_sub .., StableHlo.unary_bufs_sub .., StableHlo.binary_bufs_sub ..,
      StableHlo.unary_bufs_sub .., StableHlo.binary_bufs_sub .., StableHlo.nullary_bufs_sub ..,
      StableHlo.unary_bufs_sub .., StableHlo.binary_bufs_sub .., StableHlo.binary_bufs_sub ..,
      StableHlo.nullary_bufs_sub .., StableHlo.unary_bufs_sub .., StableHlo.binary_bufs_sub ..,
      StableHlo.unary_bufs_sub ..⟩)
/-- The pick's operations touch the TensorCore's buffers only. -/
theorem pickOps_sub : ∀ op ∈ (pickOps : List (HloOp τ sig (Elt F))), op.bufs ⊆ StableHlo.tcRefs τ sig :=
  List.forall_iff_forall_mem.mp (show (pickOps : List (HloOp τ sig (Elt F))).Forall fun op => op.bufs ⊆ StableHlo.tcRefs τ sig from
    ⟨StableHlo.nullary_bufs_sub .., StableHlo.nullary_bufs_sub .., StableHlo.nullary_bufs_sub ..,
      StableHlo.quaternary_bufs_sub .., StableHlo.quaternary_bufs_sub ..⟩)
/-- The take's operations touch the TensorCore's buffers only. -/
theorem takeOps_sub : ∀ op ∈ (takeOps : List (HloOp τ sig (Elt F))), op.bufs ⊆ StableHlo.tcRefs τ sig :=
  List.forall_iff_forall_mem.mp (show (takeOps : List (HloOp τ sig (Elt F))).Forall fun op => op.bufs ⊆ StableHlo.tcRefs τ sig from
    ⟨StableHlo.nullary_bufs_sub .., StableHlo.unary_bufs_sub .., StableHlo.binary_bufs_sub ..,
      StableHlo.nullary_bufs_sub .., StableHlo.unary_bufs_sub .., StableHlo.binary_bufs_sub ..,
      StableHlo.ternary_bufs_sub .., StableHlo.unary_bufs_sub .., StableHlo.nullary_bufs_sub ..,
      StableHlo.nullary_bufs_sub .., StableHlo.unary_bufs_sub .., StableHlo.binary_bufs_sub ..,
      StableHlo.unary_bufs_sub .., StableHlo.unary_bufs_sub .., StableHlo.binary_bufs_sub ..,
      StableHlo.binary_bufs_sub .., StableHlo.nullary_bufs_sub .., StableHlo.binary_bufs_sub ..,
      StableHlo.binary_bufs_sub .., StableHlo.unary_bufs_sub .., StableHlo.nullary_bufs_sub ..,
      StableHlo.unary_bufs_sub .., StableHlo.ternary_bufs_sub .., StableHlo.reshape_bufs_sub ..,
      StableHlo.reshape_bufs_sub ..⟩)

/-- The distances' operations allocate nothing. -/
theorem scoreOps_fresh : ∀ op ∈ (scoreOps : List (HloOp τ sig (Elt F))), op.fresh = ∅ :=
  List.forall_iff_forall_mem.mp (by simp only [List.Forall]; repeat' constructor)
/-- The pick's operations allocate nothing. -/
theorem pickOps_fresh : ∀ op ∈ (pickOps : List (HloOp τ sig (Elt F))), op.fresh = ∅ :=
  List.forall_iff_forall_mem.mp (by simp only [List.Forall]; repeat' constructor)
/-- The take's operations allocate nothing. -/
theorem takeOps_fresh : ∀ op ∈ (takeOps : List (HloOp τ sig (Elt F))), op.fresh = ∅ :=
  List.forall_iff_forall_mem.mp (by simp only [List.Forall]; repeat' constructor)

variable (m : (ℓ : Loc nD τ sig) → Buf (Elt F) ℓ)

/-- After the distances. -/
def valScore (d : Dev nD) : Valuation τ sig (Elt F) := StableHlo.after scoreOps (StableHlo.launchContents m d)
/-- After the pick. -/
def valPick (d : Dev nD) : Valuation τ sig (Elt F) := StableHlo.after pickOps (valScore m d)
/-- At the end. -/
def valEnd (d : Dev nD) : Valuation τ sig (Elt F) := StableHlo.after takeOps (valPick m d)

/-- The reference terminates, and every buffer ends at `valEnd`. -/
theorem run_main (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = valEnd m d (Proc.devRef .tc b) := by
  have h := StableHlo.run_seq no_scoped_refs no_scoped_sems (defs (F := F)) main (fun _ => scoreOps ++ (pickOps ++ takeOps)) main_eq
    (fun _ => List.forall_iff_forall_mem.mpr fun op ho => by
      rcases List.mem_append.mp ho with h | h
      · exact scoreOps_sub op h
      rcases List.mem_append.mp h with h | h
      · exact pickOps_sub op h
      · exact takeOps_sub op h) m ρ
    (fun _ op ho => by
      rcases List.mem_append.mp ho with h | h
      · exact scoreOps_fresh op h
      rcases List.mem_append.mp h with h | h
      · exact pickOps_fresh op h
      · exact takeOps_fresh op h)
  refine (θ_run defs _ _).mono (fun r h d b => (h d b).trans ?_) h
  rw [StableHlo.after_append, StableHlo.after_append]
  rfl

/-- The input is unchanged at the end. -/
theorem valEnd_arg0 (d : Dev nD) : valEnd m d (Proc.devRef .tc main_arg0) = m ((d.tc : Thread nD τ).loc main_arg0) := by
  unfold valEnd takeOps
  after_results_simp
  unfold valPick pickOps
  after_results_simp
  unfold valScore scoreOps
  after_results_simp
/-- The codebook is unchanged at the end. -/
theorem valEnd_arg1 (d : Dev nD) : valEnd m d (Proc.devRef .tc main_arg1) = m ((d.tc : Thread nD τ).loc main_arg1) := by
  unfold valEnd takeOps
  after_results_simp
  unfold valPick pickOps
  after_results_simp
  unfold valScore scoreOps
  after_results_simp

end Cert.Proof.Ref

end
-- ==== Proof.RefValue.lean ====
module

public import proofs.«01_k».proof.Proof.RefRun
public import proofs.«01_k».proof.Proof.IndexValue
public import Idealize.ShloMosaic.Lib.StackMember
public import Idealize.ShloMosaic.Lib.Routing.Ops

/-! # What the reference computes

The three parts of the reference as functions of their inputs, and each read at one index over the extended reals: a
distance is the root of the cut-off squared distance; the pick of a row is the first position of its least distance; the
row taken at a position of the codebook is that row. -/

@[expose] public section

set_option maxRecDepth 16384

noncomputable section

namespace Cert.Proof.Ref

open Cert.ReferenceIdeal Cert.ReferenceIdeal.Gen
open Idealize.ShloMosaic Idealize.ShloMosaic.TcCoe

section Any

variable {F : FTy → Type} [FloatOps F]

/-- The input as a list of rows. -/
def rows (x : Vec F S64x576x64 .f32) : Vec F S36864x64 .f32 := shapeCast S36864x64 x shapeCasts_S64x576x64_S36864x64

/-- All distances between the input rows and the codebook rows. -/
def dist (x : Vec F S36864x64 .f32) (c : Vec F S1024x64 .f32) : Vec F S36864x1024 .f32 :=
  Host.sqrt (maximumf
    (subf
      (addf
        (broadcastInDim S36864x1024 ![0, 1] bcast_S36864x1_S36864x1024_0_1 (broadcastInDim S36864x1 ![0] bcast_S36864_S36864x1_0
          (Host.reduceAdd (mulf x x) (constant S_ .f32 0x00000000#32) reducesTo_S36864x64_S36864_d1 h_S_)))
        (broadcastInDim S36864x1024 ![0, 1] bcast_S1x1024_S36864x1024_0_1 (broadcastInDim S1x1024 ![1] bcast_S1024_S1x1024_1
          (Host.reduceAdd (mulf c c) (constant S_ .f32 0x00000000#32) reducesTo_S1024x64_S1024_d1 h_S_))))
      (mulf (broadcastInDim S36864x1024 ![] bcast_S_S36864x1024 (constant S_ .f32 0x40000000#32))
        (Host.dotGeneral dot_S36864x64_S64x1024_S36864x1024_1_0_0_1_n_n none x (transpose S64x1024 [1, 0] c transposes_S1024x64_S64x1024_1_0))))
    (broadcastInDim S36864x1024 ![] bcast_S_S36864x1024 (constant S_ .f32 0x00000000#32)))

/-- The second parts of a family of pairs. -/
def seconds {ι α β : Type} (f : ι → α × β) : ι → β := fun j => (f j).2

/-- The second component at a position. -/
theorem seconds_apply {ι α β : Type} (f : ι → α × β) (j : ι) (p : α × β) (h : f j = p) : seconds f j = p.2 := by
  unfold seconds; rw [h]

/-- The position that the one pass over a row of distances keeps. -/
def pick (s : Vec F S36864x1024 .f32) : Vec F S36864 .i32 :=
  seconds (Host.argReduce reducer_argmin_f32_i32 s (iotaInDim S36864x1024 32 1) (constant S_ .f32 0x7F800000#32) (constantI S_ 32 0#32)
    reducesTo_S36864x1024_S36864_d1 h_S_)

/-- The positions with the negative ones counted from the end, as a column. -/
def wrapped (w : IVec S36864 32) : IVec S36864x1 32 :=
  broadcastInDim S36864x1 ![0] bcast_S36864_S36864x1_0
    (select (cmpi .slt w (broadcastInDim S36864 ![] bcast_S_S36864 (constantI S_ 32 0#32)))
      (addi w (broadcastInDim S36864 ![] bcast_S_S36864 (constantI S_ 32 1024#32))) w)

/-- Which of those positions lie in the codebook. -/
def inside (v : IVec S36864x1 32) : IVec S36864 1 :=
  Host.reduce IntOp.andi
    (andi (cmpi .sge v (broadcastInDim S36864x1 ![] bcast_S_S36864x1 (constantI S_ 32 0#32)))
      (cmpi .sle v (broadcastInDim S36864x1 ![0, 1] bcast_S1x1_S36864x1_0_1 (broadcastInDim S1x1 ![1] bcast_S1_S1x1_1 (constantI S1 32 1023#32)))))
    (constantI S_ 1 1#1) reducesTo_S36864x1_S36864_d1 h_S_

/-- The codebook rows at the positions, with a fill outside the codebook. -/
def take (c : Vec F S1024x64 .f32) (w : IVec S36864 32) : Vec F S36864x64 .f32 :=
  select (broadcastInDim S36864x64 ![0] bcast_S36864_S36864x64_0 (inside (wrapped w)))
    (Host.gather gather_S1024x64_S36864x1_S36864x64_1_0_n_n_0_1_164 c (wrapped w))
    (broadcastInDim S36864x64 ![] bcast_S_S36864x64 (constant S_ .f32 0x7FC00000#32))

variable (m : (ℓ : Loc nD τ sig) → Buf (Elt F) ℓ)

/-- After the distances their buffer holds them. -/
theorem valScore_v17 (d : Dev nD) : valScore m d (Proc.devRef .tc main_v17)
    = dist (rows (m (d, Proc.devRef .tc main_arg0))) (m (d, Proc.devRef .tc main_arg1)) := by
  unfold valScore scoreOps
  after_results_simp
  rfl
/-- After the distances the codebook is unchanged. -/
theorem valScore_arg1 (d : Dev nD) : valScore m d (Proc.devRef .tc main_arg1) = m (d, Proc.devRef .tc main_arg1) := by
  unfold valScore scoreOps
  after_results_simp
/-- A value read at its literal reference, worked on and put at another is the value worked on. -/
theorem through_v17 (f : Vec F S36864x1024 .f32 → Vec F S36864 .i32) (v : main_v17.ty.Contents (Elt F)) :
    main_call0.v1_1.toBuf (f ((.of main_v17 : StableHlo.TRef sig ⟨S36864x1024, .f32⟩).ofBuf v)) = f v := rfl
/-- A function of the codebook and the picked indices, read where they are held. -/
theorem through_arg1_v18 (f : Vec F S1024x64 .f32 → Vec F S36864 .i32 → Vec F S36864x64 .f32) (c : main_arg1.ty.Contents (Elt F))
    (w : main_v18.ty.Contents (Elt F)) :
    main_call1.v16.toBuf (f ((.of main_arg1 : StableHlo.TRef sig ⟨S1024x64, .f32⟩).ofBuf c)
      ((.of main_v18 : StableHlo.TRef sig ⟨S36864, .i32⟩).ofBuf w)) = f c w := rfl

/-- After the pick its buffer holds the picked positions. -/
theorem valPick_v18 (d : Dev nD) : valPick m d (Proc.devRef .tc main_v18)
    = pick (F := F) (valScore m d (Proc.devRef .tc main_v17)) := by
  unfold valPick pickOps
  after_results_simp
  simp only [StableHlo.TRef.ofBuf_toBuf]
  exact through_v17 pick _
/-- After the pick the codebook is unchanged. -/
theorem valPick_arg1 (d : Dev nD) : valPick m d (Proc.devRef .tc main_arg1) = m (d, Proc.devRef .tc main_arg1) := by
  unfold valPick pickOps
  after_results_simp
  exact valScore_arg1 m d

/-- The reference's index result. -/
theorem valEnd_v21 (d : Dev nD) : valEnd m d (Proc.devRef .tc main_v21)
    = shapeCast S64x576 (pick (dist (rows (m (d, Proc.devRef .tc main_arg0))) (m (d, Proc.devRef .tc main_arg1))))
        shapeCasts_S36864_S64x576 := by
  unfold valEnd takeOps
  after_results_simp
  exact congrArg (fun z : Vec F S36864 .i32 => shapeCast S64x576 z shapeCasts_S36864_S64x576)
    ((valPick_v18 m d).trans (congrArg pick (valScore_v17 m d)))
/-- The reference's vector result. -/
theorem valEnd_v20 (d : Dev nD) : valEnd m d (Proc.devRef .tc main_v20)
    = shapeCast S64x576x64 (take (m (d, Proc.devRef .tc main_arg1))
        (pick (dist (rows (m (d, Proc.devRef .tc main_arg0))) (m (d, Proc.devRef .tc main_arg1)))))
        shapeCasts_S36864x64_S64x576x64 := by
  unfold valEnd takeOps
  after_results_simp
  simp only [StableHlo.TRef.ofBuf_toBuf]
  exact congrArg (fun z : Vec F S36864x64 .f32 => shapeCast S64x576x64 z shapeCasts_S36864x64_S64x576x64)
    ((through_arg1_v18 take _ _).trans
      (congrArg₂ take (valPick_arg1 m d) ((valPick_v18 m d).trans (congrArg pick (valScore_v17 m d)))))

/-- A position of the codebook is not counted from the end. -/
theorem not_wrapped (k : Fin 1024) : Scalar.select (IntOp.cmpi CmpIPredicate.slt (BitVec.ofNat 32 k.val) 0#32)
    (IntOp.addi (BitVec.ofNat 32 k.val) 1024#32) (BitVec.ofNat 32 k.val) = BitVec.ofNat 32 k.val := by
  have h : ¬ (BitVec.ofNat 32 k.val).slt 0#32 = true := by
    rw [BitVec.slt_iff_toInt_lt, toInt_pos]
    simp
  unfold Scalar.select IntOp.cmpi
  simp [h]

/-- It is at least zero and at most the last. -/
theorem within (k : Fin 1024) : IntOp.andi (IntOp.cmpi CmpIPredicate.sge (BitVec.ofNat 32 k.val) 0#32)
    (IntOp.cmpi CmpIPredicate.sle (BitVec.ofNat 32 k.val) 1023#32) = 1#1 := by
  have h0 : (0#32).sle (BitVec.ofNat 32 k.val) = true := by
    rw [BitVec.sle_iff_toInt_le, toInt_pos]
    simp
  have h1 : (BitVec.ofNat 32 k.val).sle 1023#32 = true := by
    rw [BitVec.sle_iff_toInt_le, toInt_pos, show (1023#32).toInt = 1023 from by decide]
    have := k.isLt
    omega
  unfold IntOp.cmpi
  simp [h0, h1]
  rfl

/-- A row taken at a position of the codebook is the codebook's row. -/
theorem take_apply (c : Vec F S1024x64 .f32) (w : IVec S36864 32) (n : Fin 36864) (i : Fin 64) (k : Fin 1024)
    (hw : w (ix1 n) = BitVec.ofNat 32 k.val) : take c w (ix2 n i) = c (ix2 k i) := by
  have hv : wrapped w (ix2 n 0) = BitVec.ofNat 32 k.val := by
    unfold wrapped
    simp only [pointwise]
    have e : ¬(36864 : ℕ) = 1 := by decide
    refine (congrArg (fun r => Scalar.select (IntOp.cmpi CmpIPredicate.slt (w (ix1 r)) 0#32) (IntOp.addi (w (ix1 r)) 1024#32) (w (ix1 r)))
      (dif_neg e)).trans ?_
    simp only [hw]
    exact not_wrapped k
  have hi : inside (wrapped w) (ix1 n) = 1#1 := by
    unfold inside
    simp only [pointwise, Host.reduce_eq_fold]
    rw [Finset.univ_unique, Finset.fold_singleton]
    show IntOp.andi (IntOp.andi (IntOp.cmpi _ (wrapped w (ix2 n 0)) _) (IntOp.cmpi _ (wrapped w (ix2 n 0)) _)) _ = _
    rw [hv, within]
    rfl
  unfold take
  simp only [pointwise]
  have e : ¬(36864 : ℕ) = 1 := by decide
  refine (congrArg (fun r => Scalar.select (inside (wrapped w) (ix1 r)) _ _) (dif_neg e)).trans ?_
  rw [hi]
  refine Eq.trans ?_ (Routing.gather_row gather_S1024x64_S36864x1_S36864x64_1_0_n_n_0_1_164 rfl rfl rfl rfl rfl c (wrapped w) n i k hv (by decide))
  rfl

end Any

/-- A distance is the root of the cut-off squared distance. -/
theorem dist_apply (x : Vec Ideal S36864x64 .f32) (c : Vec Ideal S1024x64 .f32) (n : Fin 36864) (k : Fin 1024) :
    dist x c (ix2 n k) = Ideal.sqrt (sqDist (∑ i : Fin 64, x (ix2 n i) * x (ix2 n i)) (∑ i : Fin 64, c (ix2 k i) * c (ix2 k i))
      (∑ i : Fin 64, x (ix2 n i) * c (ix2 k i))) := by
  unfold dist
  simp only [pointwise, Host.reduceAdd, Ideal.hostReduceAdd_def]
  have e1 : ¬(36864 : ℕ) = 1 := by decide
  have e2 : ¬(1024 : ℕ) = 1 := by decide
  have a1 := (dif_neg e1 : (if h : (36864 : ℕ) = 1 then 0 else if h : (36864 : ℕ) = 1 then 0 else n) = _).trans (dif_neg e1)
  have a2 := (dif_neg e2 : (if h : (1024 : ℕ) = 1 then 0 else if h : (1024 : ℕ) = 1 then 0 else k) = _).trans (dif_neg e2)
  unfold sqDist
  simp only [zero_add, two_f32]
  exact congrArg₂ (fun p q => Ideal.sqrt (max (∑ i : Fin 64, x (ix2 p i) * x (ix2 p i) + ∑ i : Fin 64, c (ix2 q i) * c (ix2 q i)
    - 2 * ∑ i : Fin 64, x (ix2 n i) * c (ix2 k i)) 0)) a1 a2

/-- A one-pass reduction of pairs along the second axis is the fold over the row, for an operation whose order is immaterial. -/
theorem reduce2_row {α β : Type} {n0 n1 : Nat} {u : Shape} (op : α × β → α × β → α × β) [Std.Commutative op] [Std.Associative op]
    (s : (⟨2, ![n0, n1]⟩ : Shape).Idx → α) (y : (⟨2, ![n0, n1]⟩ : Shape).Idx → β) (a : u.Idx → α) (b : u.Idx → β)
    (h : (⟨2, ![n0, n1]⟩ : Shape).ReducesTo [1] (⟨1, ![n0]⟩ : Shape)) (hu : 0 < u.numel) (n : Fin n0) :
    Host.reduce2 op s y a b h hu (ix1 n)
      = (Finset.univ : Finset (Fin n1)).fold op (a (Shape.Idx.first hu), b (Shape.Idx.first hu)) (fun k => (s (ix2 n k), y (ix2 n k))) := by
  have e := Shape.foldl_filter_rowMajor_eq_fold h.drop op
    (a (Shape.Idx.first hu), b (Shape.Idx.first hu)) (fun i => (s i, y i)) (ix1 n)
  unfold Host.reduce2
  refine e.trans ?_
  rw [Shape.ReducesTo.fold_fiber_r2_a1 h]
  rfl

/-- The pass starts from the largest value at position zero. -/
theorem pick_start (hu : 0 < S_.numel) :
    ((constant (F := Ideal) S_ .f32 0x7F800000#32 (Shape.Idx.first hu), constantI S_ 32 0#32 (Shape.Idx.first hu)) : EReal × BitVec 32)
      = ((⊤ : EReal), 0#32) := Prod.ext top_f32 rfl

/-- The pairs that the pass meets in a row. -/
theorem pick_pairs (s : Vec Ideal S36864x1024 .f32) (n : Fin 36864) :
    (fun k : Fin 1024 => ((s (ix2 n k), iotaInDim S36864x1024 32 1 (ix2 n k)) : EReal × BitVec 32))
      = fun k => (s (ix2 n k), BitVec.ofNat 32 k.val) := rfl

/-- The pick over one row of scores. -/
theorem pick_row (s : Vec Ideal S36864x1024 .f32) (h : S36864x1024.ReducesTo [1] S36864) (hu : 0 < S_.numel) (n : Fin 36864) :
    Host.reduce2 (reducer_argmin_f32_i32 (F := Ideal)) s (iotaInDim S36864x1024 32 1) (constant S_ .f32 0x7F800000#32) (constantI S_ 32 0#32) h hu (ix1 n)
      = (s (ix2 n (first fun k => s (ix2 n k))), BitVec.ofNat 32 (first fun k => s (ix2 n k)).val) := by
  refine (reduce2_row (reducer_argmin_f32_i32 (F := Ideal)) s _ _ _ h hu n).trans ?_
  refine Eq.trans ?_ (fold_pick fun k => s (ix2 n k))
  exact congrArg₂ (fun b f => (Finset.univ : Finset (Fin 1024)).fold (reducer_argmin_f32_i32 (F := Ideal)) b f) (pick_start hu) (pick_pairs s n)

/-- The pick of a row is the first position of its least distance. -/
theorem pick_apply (s : Vec Ideal S36864x1024 .f32) (n : Fin 36864) :
    pick s (ix1 n) = BitVec.ofNat 32 (first fun k => s (ix2 n k)).val := by
  unfold pick
  exact seconds_apply _ _ _ ((congrFun (Ideal.argReduce_eq_reduce2 ..) (ix1 n)).trans (pick_row s _ _ n))

end Cert.Proof.Ref

end
-- ==== Proof.Equal.lean ====
module

public import proofs.«01_k».proof.Proof.KernelValue
public import proofs.«01_k».proof.Proof.Root
public import proofs.«01_k».proof.Proof.RefValue

/-! # The two programs compute the same

On real inputs: the kernel's distances are the reference's, so both pick the same row of the codebook for each input row,
and the row the SparseCores gather is the row the reference takes. -/

@[expose] public section

set_option maxRecDepth 16384

noncomputable section

namespace Cert.Proof

open Cert.KernelIdeal Cert.KernelIdeal.Gen
open Idealize.ShloMosaic Idealize.ShloMosaic.TcCoe

/-- The kernel's distances of real rows are the reference's. -/
theorem scoreAt_eq_dist (x : Vec Ideal S36864x64 .f32) (c : Vec Ideal S1024x64 .f32) (hx : ∀ i, IsReal (x i))
    (hc : ∀ i, IsReal (c i)) (n : Fin 36864) : scoreAt x c n = fun k => Ref.dist x c (ix2 n k) :=
  funext fun k => (score_eq_sqrt (IsReal.sum _ _ fun i => (hx _).mul (hx _)) (IsReal.sum _ _ fun i => (hc _).mul (hc _))
    (IsReal.sum _ _ fun i => (hx _).mul (hc _))).trans (Ref.dist_apply x c n k).symm

variable (m : (ℓ : Loc nD τ sig) → Buf (Elt Ideal) ℓ) (d : Dev nD) (x : Vec Ideal S64x576x64 .f32) (c : Vec Ideal S1024x64 .f32)
  (ex : m (d, Proc.devRef .tc main_arg0) = x) (ec : m (d, Proc.devRef .tc main_arg1) = c)
  (hx : ∀ i, IsReal (x i)) (hc : ∀ i, IsReal (c i))

include ex ec hx hc

/-- The kernel's index of a row, through the reference's distances. -/
theorem idxOf_dist (n : Fin 36864) : (idxOf m d : Vec Ideal S36864 .i32) (ix1 n)
    = BitVec.ofNat 32 (first fun k => Ref.dist (Ref.rows x) c (ix2 n k)).val := by
  have h := idxOf_apply m d n
  rw [ex, ec] at h
  exact h.trans (congrArg (fun s => BitVec.ofNat 32 (first s).val) (scoreAt_eq_dist (rowsOf x) c (fun i => hx _) hc n))

/-- The index arrays are equal. -/
theorem idxOf_eq_pick : (idxOf m d : Vec Ideal S36864 .i32) = Ref.pick (Ref.dist (Ref.rows x) c) := by
  funext i
  obtain ⟨n, rfl⟩ : ∃ n : Fin 36864, i = ix1 n := ⟨i 0, eq_ix1 i⟩
  exact (idxOf_dist m d x c ex ec hx hc n).trans (Ref.pick_apply _ n).symm

/-- The rows are equal. -/
theorem rows_eq_take : extractStridedSlice S36864x64 ![0, 0] (gathered (wide c) (idxOf m d : Vec Ideal S36864 .i32))
      slices_S36864x128_S36864x64_0_0 = Ref.take c (Ref.pick (Ref.dist (Ref.rows x) c)) := by
  funext i
  obtain ⟨n, k, rfl⟩ : ∃ (n : Fin 36864) (k : Fin 64), i = ix2 n k := ⟨i 0, i 1, eq_ix2 i⟩
  refine (slice_gathered c _ n k).trans ?_
  rw [Ref.take_apply c _ n k _ (Ref.pick_apply _ n), idxOf_dist m d x c ex ec hx hc n]
  refine congrArg (fun r => c (ix2 r k)) (Fin.ext ?_)
  show (BitVec.ofNat 32 _).toNat % 1024 = _
  rw [BitVec.toNat_ofNat, Nat.mod_eq_of_lt (a := Fin.val _) (by omega), Nat.mod_eq_of_lt (Fin.is_lt _)]

/-- The first results are equal. -/
theorem first_result : (valEnd m d (Proc.devRef .tc main_v11) : Vec Ideal S64x576 .i32)
    = shapeCast S64x576 (Ref.pick (Ref.dist (Ref.rows x) c)) Cert.ReferenceIdeal.Gen.shapeCasts_S36864_S64x576 :=
  (valEnd_v11 m d).trans (congrArg (fun z : Vec Ideal S36864 .i32 => shapeCast S64x576 z shapeCasts_S36864_S64x576)
    (idxOf_eq_pick m d x c ex ec hx hc))

/-- The second results are equal. -/
theorem second_result : (valEnd m d (Proc.devRef .tc main_v12) : Vec Ideal S64x576x64 .f32)
    = shapeCast S64x576x64 (Ref.take c (Ref.pick (Ref.dist (Ref.rows x) c))) Cert.ReferenceIdeal.Gen.shapeCasts_S36864x64_S64x576x64 := by
  have h := valEnd_v12 m d
  rw [ec] at h
  exact h.trans (congrArg (fun z : Vec Ideal S36864x64 .f32 => shapeCast S64x576x64 z shapeCasts_S36864x64_S64x576x64)
    (rows_eq_take m d x c ex ec hx hc))

end Cert.Proof

end
-- ==== Proof.lean ====
/-
  The claims: the kernel and the reference run over the extended reals, leave their arguments and every counter as they
  were, and on finite inputs end with equal results.
-/
module

public import proofs.«01_k».proof.Defs
public import proofs.«01_k».proof.Proof.Equal
public import proofs.«01_k».proof.Proof.Gen.Pre_finite
public import Idealize.ShloMosaic.Lib.Quiescent

@[expose] public section

set_option maxRecDepth 16384

noncomputable section

namespace Cert.Proof

open Idealize.ShloMosaic Idealize.ShloMosaic.TcCoe Idealize.SL.Sem

/-- A buffer outside every region is among those whose contents at the end are known. -/
theorem unscoped_mem {b : Ref KernelIdeal.sig .tc} (h : b.isScoped = false) :
    (Proc.devRef .tc b : DevRef KernelIdeal.τ KernelIdeal.sig) ∈ Pipeline.ucRefs KernelIdeal.τ KernelIdeal.sig :=
  Finset.mem_filter.mpr ⟨StableHlo.devRef_mem_tcRefs b, by rw [Proc.isScoped_devRef, h]; exact Bool.false_ne_true⟩

/-- The kernel's run, read at its arguments and results. -/
theorem kernel_run (m : (ℓ : Loc KernelIdeal.nD KernelIdeal.τ KernelIdeal.sig) → Buf (Elt Ideal) ℓ) (g : Dev KernelIdeal.nD → PrngReg) :
    θ_run (KernelIdeal.defs (F := Ideal)) (KernelIdeal.threads (F := Ideal)) ⟨m, fun _ => 0, g⟩ fun r =>
      (∀ d : Dev KernelIdeal.nD,
        r.2.mem (d, Proc.devRef .tc KernelIdeal.main_v11) = valEnd m d (Proc.devRef .tc KernelIdeal.main_v11)
        ∧ r.2.mem (d, Proc.devRef .tc KernelIdeal.main_v12) = valEnd m d (Proc.devRef .tc KernelIdeal.main_v12)
        ∧ r.2.mem (d, Proc.devRef .tc KernelIdeal.main_arg0) = m (d, Proc.devRef .tc KernelIdeal.main_arg0)
        ∧ r.2.mem (d, Proc.devRef .tc KernelIdeal.main_arg1) = m (d, Proc.devRef .tc KernelIdeal.main_arg1))
      ∧ r.2.sem = fun _ => 0 :=
  (θ_run _ _ _).mono (fun r h => ⟨fun d =>
    ⟨h.1 d _ (unscoped_mem (by decide)), h.1 d _ (unscoped_mem (by decide)),
      (h.1 d _ (unscoped_mem (by decide))).trans (valEnd_arg0 m d),
      (h.1 d _ (unscoped_mem (by decide))).trans (valEnd_arg1 m d)⟩, h.2⟩) (run_ideal m g)

/-- The kernel ends with its arguments unchanged and its counters at zero. -/
theorem kernel_frame (m : (ℓ : Loc KernelIdeal.nD KernelIdeal.τ KernelIdeal.sig) → Buf (Elt Ideal) ℓ) (g : Dev KernelIdeal.nD → PrngReg) :
    θ_run (KernelIdeal.defs (F := Ideal)) (KernelIdeal.threads (F := Ideal)) ⟨m, fun _ => 0, g⟩ fun r =>
      (∀ d : Dev KernelIdeal.nD,
        r.2.mem ((d.tc : Thread KernelIdeal.nD KernelIdeal.τ).loc KernelIdeal.main_arg0) = m ((d.tc : Thread KernelIdeal.nD KernelIdeal.τ).loc KernelIdeal.main_arg0)
        ∧ r.2.mem ((d.tc : Thread KernelIdeal.nD KernelIdeal.τ).loc KernelIdeal.main_arg1) = m ((d.tc : Thread KernelIdeal.nD KernelIdeal.τ).loc KernelIdeal.main_arg1))
      ∧ r.2.sem = fun _ => 0 :=
  (θ_run _ _ _).mono (fun _ h => ⟨fun d => (h.1 d).2.2, h.2⟩) (kernel_run m g)

/-- The reference ends with its arguments unchanged; it has no counter. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ fun r =>
      (∀ d : Dev ReferenceIdeal.nD,
        r.2.mem ((d.tc : Thread ReferenceIdeal.nD ReferenceIdeal.τ).loc ReferenceIdeal.main_arg0) = m ((d.tc : Thread ReferenceIdeal.nD ReferenceIdeal.τ).loc ReferenceIdeal.main_arg0)
        ∧ r.2.mem ((d.tc : Thread ReferenceIdeal.nD ReferenceIdeal.τ).loc ReferenceIdeal.main_arg1) = m ((d.tc : Thread ReferenceIdeal.nD ReferenceIdeal.τ).loc ReferenceIdeal.main_arg1))
      ∧ r.2.sem = fun _ => 0 :=
  (θ_run _ _ _).mono (fun r h => ⟨fun d => ⟨(h d _).trans (Ref.valEnd_arg0 m d), (h d _).trans (Ref.valEnd_arg1 m d)⟩,
    sem_eq_zero_of_no_sems (by decide) r.2⟩) (Ref.run_main m g)

/-- On finite inputs the results are equal. -/
theorem values : Cert.algebraic_KernelIdeal_ReferenceIdeal_pre_finite (hKernelIdeal := KernelIdeal.Gen.facts)
    (hReferenceIdeal := ReferenceIdeal.Gen.facts) (hPre_finite := Pre_finite.Gen.facts) := by
  intro m g m' g' hpre hagree
  refine ⟨fun d => valEnd m d (Proc.devRef .tc KernelIdeal.main_v11), fun d => valEnd m d (Proc.devRef .tc KernelIdeal.main_v12),
    (θ_run _ _ _).mono (fun _ h => h.1) (kernel_run m g),
    (θ_run _ _ _).mono (fun r h d => ?_) (Ref.run_main m' g')⟩
  obtain ⟨e0, e1⟩ := hagree d
  have hr := reals_of_finite _ _ (hpre d)
  refine ⟨?_, ?_, (h d _).trans (Ref.valEnd_arg0 m' d), (h d _).trans (Ref.valEnd_arg1 m' d)⟩
  · exact ((h d _).trans (Ref.valEnd_v21 m' d)).trans (first_result m d _ _ e0.symm e1.symm (e0 ▸ hr.1) (e1 ▸ hr.2)).symm
  · exact ((h d _).trans (Ref.valEnd_v20 m' d)).trans (second_result m d _ _ e0.symm e1.symm (e0 ▸ hr.1) (e1 ▸ hr.2)).symm

/-- Everything that is claimed. -/
theorem claim : Cert.Claim :=
  ⟨KernelIdeal.Gen.facts, ReferenceIdeal.Gen.facts, Pre_finite.Gen.facts, fun m g _ => kernel_frame m g, fun m g _ => kernel_frame m g,
    fun m g _ => reference_frame m g, fun m g _ => reference_frame m g, values⟩

end Cert.Proof

end
